-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1000000x16 : Shape := ⟨2, ![1000000, 16]⟩
abbrev S16x64 : Shape := ⟨2, ![16, 64]⟩
abbrev S64 : Shape := ⟨1, ![64]⟩
abbrev S64x1 : Shape := ⟨2, ![64, 1]⟩
abbrev S1 : Shape := ⟨1, ![1]⟩
abbrev S1000000 : Shape := ⟨1, ![1000000]⟩
abbrev S1000000x64 : Shape := ⟨2, ![1000000, 64]⟩
abbrev S1x64 : Shape := ⟨2, ![1, 64]⟩
abbrev S1000000x1 : Shape := ⟨2, ![1000000, 1]⟩
abbrev S1x1 : Shape := ⟨2, ![1, 1]⟩
abbrev S_ : Shape := ⟨0, ![]⟩
abbrev S62500x16 : Shape := ⟨2, ![62500, 16]⟩
abbrev S62500x1 : Shape := ⟨2, ![62500, 1]⟩
abbrev S62500 : Shape := ⟨1, ![62500]⟩
abbrev S3036 : Shape := ⟨1, ![3036]⟩
abbrev S65536 : Shape := ⟨1, ![65536]⟩
abbrev S800 : Shape := ⟨1, ![800]⟩
abbrev S800x16 : Shape := ⟨2, ![800, 16]⟩
abbrev S16 : Shape := ⟨1, ![16]⟩

abbrev nBuf : Table → Nat
  | .hbm => 31
  | .local .scVector .vmem => 6
  | _ => 0

abbrev bufTy : (tb : Table) → Fin (nBuf tb) → BufTy
  | .hbm, ⟨0, _⟩ => ⟨S1000000x16, .f32⟩
  | .hbm, ⟨1, _⟩ => ⟨S16x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S1000000, .f32⟩
  | .hbm, ⟨6, _⟩ => ⟨S1000000x64, .f32⟩
  | .hbm, ⟨7, _⟩ => ⟨S1x64, .f32⟩
  | .hbm, ⟨8, _⟩ => ⟨S1000000x64, .f32⟩
  | .hbm, ⟨9, _⟩ => ⟨S1000000x64, .f32⟩
  | .hbm, ⟨10, _⟩ => ⟨S1000000x64, .f32⟩
  | .hbm, ⟨11, _⟩ => ⟨S1000000x1, .f32⟩
  | .hbm, ⟨12, _⟩ => ⟨S1x1, .f32⟩
  | .hbm, ⟨13, _⟩ => ⟨S1000000x1, .f32⟩
  | .hbm, ⟨14, _⟩ => ⟨S1000000x1, .f32⟩
  | .hbm, ⟨15, _⟩ => ⟨S1000000, .f32⟩
  | .hbm, ⟨16, _⟩ => ⟨S1000000, .f32⟩
  | .hbm, ⟨17, _⟩ => ⟨S_, .f32⟩
  | .hbm, ⟨18, _⟩ => ⟨S_, .f32⟩
  | .hbm, ⟨19, _⟩ => ⟨S1000000, .f32⟩
  | .hbm, ⟨20, _⟩ => ⟨S1000000, .f32⟩
  | .hbm, ⟨21, _⟩ => ⟨S_, .f32⟩
  | .hbm, ⟨22, _⟩ => ⟨S_, .f32⟩
  | .hbm, ⟨23, _⟩ => ⟨S1000000, .f32⟩
  | .hbm, ⟨24, _⟩ => ⟨S62500x16, .f32⟩
  | .hbm, ⟨25, _⟩ => ⟨S62500x1, .f32⟩
  | .hbm, ⟨26, _⟩ => ⟨S62500, .f32⟩
  | .hbm, ⟨27, _⟩ => ⟨S_, .f32⟩
  | .hbm, ⟨28, _⟩ => ⟨S3036, .f32⟩
  | .hbm, ⟨29, _⟩ => ⟨S65536, .f32⟩
  | .hbm, ⟨30, _⟩ => ⟨S1000000x16, .f32⟩
  | .local .scVector .vmem, ⟨0, _⟩ => ⟨S65536, .f32⟩
  | .local .scVector .vmem, ⟨1, _⟩ => ⟨S800, .f32⟩
  | .local .scVector .vmem, ⟨2, _⟩ => ⟨S800, .i32⟩
  | .local .scVector .vmem, ⟨3, _⟩ => ⟨S800x16, .f32⟩
  | .local .scVector .vmem, ⟨4, _⟩ => ⟨S800, .i32⟩
  | .local .scVector .vmem, ⟨5, _⟩ => ⟨S800x16, .f32⟩
  | _, _ => ⟨S1000000x16, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_call0_cst : Ref sig .tc := ⟨.hbm, 21, rfl⟩
abbrev main_call0_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v19_scv : Ref sig .scVector := ⟨.hbm, 29, rfl⟩
abbrev main_v15_scv : Ref sig .scVector := ⟨.hbm, 24, rfl⟩
abbrev main_arg5_scv : Ref sig .scVector := ⟨.hbm, 5, rfl⟩
abbrev main_arg0_scv : Ref sig .scVector := ⟨.hbm, 0, rfl⟩
abbrev main_v20_scv : Ref sig .scVector := ⟨.hbm, 30, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop (i : grid0.Coords) : Scf.Loop 32 :=
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c1250_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c1250_i32_5 : BitVec 32 := 1250#32
  let c1_i32_4 : BitVec 32 := 1#32
  let v20 : BitVec 32 := Scalar.addi v1 c1_i32_4
  let v21 : BitVec 32 := Scalar.muli c1250_i32_5 v20
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let v40 : BitVec 32 := Scalar.subi v38 v19
  let c1_i32_14 : BitVec 32 := 1#32
  let v42 : BitVec 32 := Scalar.divsi v40 c1_i32_14
  let v43 : BitVec 32 := Scalar.muli v42 c1_i32_14
  let v44 : BitVec 32 := Scalar.addi v19 v43
  let c1_i32_15 : BitVec 32 := 1#32
  ⟨v19, v44, c1_i32_15⟩
def k0_off1 (i : grid0.Coords) (k0_t1 : Fin (k0_t1_loop i).trips) : Fin 1 → Nat :=
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c1250_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c1_i32_15 : BitVec 32 := 1#32
  let arg14 : BitVec 32 := Scf.iv v19 c1_i32_15 k0_t1
  let c800_i32 : BitVec 32 := 800#32
  let v45 : BitVec 32 := Scalar.muli arg14 c800_i32
  ![v45.toNat]
@[reducible] def k0_t2_loop : Scf.Loop 32 :=
  let c0_i32_18 : BitVec 32 := 0#32
  let c10_i32 : BitVec 32 := 10#32
  let v46 : BitVec 32 := Scalar.addi c0_i32_18 c10_i32
  let c1_i32_19 : BitVec 32 := 1#32
  ⟨c0_i32_18, v46, c1_i32_19⟩
def k0_off2 (k0_t2 : Fin k0_t2_loop.trips) (c0_i32_34 : BitVec 32) : Fin 1 → Nat :=
  let c0_i32_18 : BitVec 32 := 0#32
  let c1_i32_19 : BitVec 32 := 1#32
  let arg15 : BitVec 32 := Scf.iv c0_i32_18 c1_i32_19 k0_t2
  let c5_i32 : BitVec 32 := 5#32
  let v52 : BitVec 32 := Scalar.muli arg15 c5_i32
  let v53 : BitVec 32 := Scalar.addi v52 c0_i32_34
  let c16_i32 : BitVec 32 := 16#32
  let v54 : BitVec 32 := Scalar.muli v53 c16_i32
  let v55 : Index := Scalar.indexCast v54
  ![v55.toNat]
@[reducible] def k0_t3_loop : Scf.Loop 32 :=
  let c0_i32_42 : BitVec 32 := 0#32
  let c16_i32_43 : BitVec 32 := 16#32
  let v74 : BitVec 32 := Scalar.addi c0_i32_42 c16_i32_43
  let c1_i32_44 : BitVec 32 := 1#32
  ⟨c0_i32_42, v74, c1_i32_44⟩

def k0_chk1 (v109 : IVec S16 32) : Prop :=
  (∀ a x, ((![v109] : Fin 1 → IVec S16 32) a x).toNat < S65536.size a)
theorem k0_idx1_inb : ∀ (v109 : IVec S16 32) (k0_hw1 : k0_chk1 v109), ∀ a x, ((![v109] : Fin 1 → IVec S16 32) a x).toNat < S65536.size a := fun v109 k0_hw1 => k0_hw1

def k0_chk2 (v113 : IVec S16 32) : Prop :=
  (∀ a x, ((![v113] : Fin 1 → IVec S16 32) a x).toNat < S65536.size a)
theorem k0_idx2_inb : ∀ (v113 : IVec S16 32) (k0_hw2 : k0_chk2 v113), ∀ a x, ((![v113] : Fin 1 → IVec S16 32) a x).toNat < S65536.size a := fun v113 k0_hw2 => k0_hw2

def k0_chk3 (v117 : IVec S16 32) : Prop :=
  (∀ a x, ((![v117] : Fin 1 → IVec S16 32) a x).toNat < S65536.size a)
theorem k0_idx3_inb : ∀ (v117 : IVec S16 32) (k0_hw3 : k0_chk3 v117), ∀ a x, ((![v117] : Fin 1 → IVec S16 32) a x).toNat < S65536.size a := fun v117 k0_hw3 => k0_hw3

def k0_chk4 (v121 : IVec S16 32) : Prop :=
  (∀ a x, ((![v121] : Fin 1 → IVec S16 32) a x).toNat < S65536.size a)
theorem k0_idx4_inb : ∀ (v121 : IVec S16 32) (k0_hw4 : k0_chk4 v121), ∀ a x, ((![v121] : Fin 1 → IVec S16 32) a x).toNat < S65536.size a := fun v121 k0_hw4 => k0_hw4

def k0_chk5 (v125 : IVec S16 32) : Prop :=
  (∀ a x, ((![v125] : Fin 1 → IVec S16 32) a x).toNat < S65536.size a)
theorem k0_idx5_inb : ∀ (v125 : IVec S16 32) (k0_hw5 : k0_chk5 v125), ∀ a x, ((![v125] : Fin 1 → IVec S16 32) a x).toNat < S65536.size a := fun v125 k0_hw5 => k0_hw5
@[reducible] def k0_t4_loop : Scf.Loop 32 :=
  let c0_i32_26 : BitVec 32 := 0#32
  let c10_i32_27 : BitVec 32 := 10#32
  let v49 : BitVec 32 := Scalar.addi c0_i32_26 c10_i32_27
  let c1_i32_28 : BitVec 32 := 1#32
  ⟨c0_i32_26, v49, c1_i32_28⟩
def k0_off3 (k0_t4 : Fin k0_t4_loop.trips) (c0_i32_34 : BitVec 32) : Fin 1 → Nat :=
  let c0_i32_26 : BitVec 32 := 0#32
  let c1_i32_28 : BitVec 32 := 1#32
  let arg15 : BitVec 32 := Scf.iv c0_i32_26 c1_i32_28 k0_t4
  let c5_i32 : BitVec 32 := 5#32
  let v52 : BitVec 32 := Scalar.muli arg15 c5_i32
  let v53 : BitVec 32 := Scalar.addi v52 c0_i32_34
  let c16_i32 : BitVec 32 := 16#32
  let v54 : BitVec 32 := Scalar.muli v53 c16_i32
  let v55 : Index := Scalar.indexCast v54
  ![v55.toNat]
@[reducible] def k0_t5_loop : Scf.Loop 32 :=
  let c0_i32_52 : BitVec 32 := 0#32
  let c16_i32_53 : BitVec 32 := 16#32
  let v94 : BitVec 32 := Scalar.addi c0_i32_52 c16_i32_53
  let c1_i32_54 : BitVec 32 := 1#32
  ⟨c0_i32_52, v94, c1_i32_54⟩

def k0_chk6 (v76 : IVec S16 32) (v80 : IVec S16 32) (v84 : IVec S16 32) (v88 : IVec S16 32) (v92 : IVec S16 32) (v163 : IVec S16 32) : Prop :=
  (∀ a x, ((![v76, v163] : Fin 2 → IVec S16 32) a x).toNat < S800x16.size a) ∧
  (∀ a x, ((![v80, v163] : Fin 2 → IVec S16 32) a x).toNat < S800x16.size a) ∧
  (∀ a x, ((![v84, v163] : Fin 2 → IVec S16 32) a x).toNat < S800x16.size a) ∧
  (∀ a x, ((![v88, v163] : Fin 2 → IVec S16 32) a x).toNat < S800x16.size a) ∧
  (∀ a x, ((![v92, v163] : Fin 2 → IVec S16 32) a x).toNat < S800x16.size a)
theorem k0_idx6_inb : ∀ (v76 : IVec S16 32) (v80 : IVec S16 32) (v84 : IVec S16 32) (v88 : IVec S16 32) (v92 : IVec S16 32) (v163 : IVec S16 32) (k0_hw6 : k0_chk6 v76 v80 v84 v88 v92 v163), ∀ a x, ((![v76, v163] : Fin 2 → IVec S16 32) a x).toNat < S800x16.size a := fun v76 v80 v84 v88 v92 v163 k0_hw6 => k0_hw6.1
theorem k0_idx7_inb : ∀ (v76 : IVec S16 32) (v80 : IVec S16 32) (v84 : IVec S16 32) (v88 : IVec S16 32) (v92 : IVec S16 32) (v163 : IVec S16 32) (k0_hw6 : k0_chk6 v76 v80 v84 v88 v92 v163), ∀ a x, ((![v80, v163] : Fin 2 → IVec S16 32) a x).toNat < S800x16.size a := fun v76 v80 v84 v88 v92 v163 k0_hw6 => k0_hw6.2.1
theorem k0_idx8_inb : ∀ (v76 : IVec S16 32) (v80 : IVec S16 32) (v84 : IVec S16 32) (v88 : IVec S16 32) (v92 : IVec S16 32) (v163 : IVec S16 32) (k0_hw6 : k0_chk6 v76 v80 v84 v88 v92 v163), ∀ a x, ((![v84, v163] : Fin 2 → IVec S16 32) a x).toNat < S800x16.size a := fun v76 v80 v84 v88 v92 v163 k0_hw6 => k0_hw6.2.2.1
theorem k0_idx9_inb : ∀ (v76 : IVec S16 32) (v80 : IVec S16 32) (v84 : IVec S16 32) (v88 : IVec S16 32) (v92 : IVec S16 32) (v163 : IVec S16 32) (k0_hw6 : k0_chk6 v76 v80 v84 v88 v92 v163), ∀ a x, ((![v88, v163] : Fin 2 → IVec S16 32) a x).toNat < S800x16.size a := fun v76 v80 v84 v88 v92 v163 k0_hw6 => k0_hw6.2.2.2.1
theorem k0_idx10_inb : ∀ (v76 : IVec S16 32) (v80 : IVec S16 32) (v84 : IVec S16 32) (v88 : IVec S16 32) (v92 : IVec S16 32) (v163 : IVec S16 32) (k0_hw6 : k0_chk6 v76 v80 v84 v88 v92 v163), ∀ a x, ((![v92, v163] : Fin 2 → IVec S16 32) a x).toNat < S800x16.size a := fun v76 v80 v84 v88 v92 v163 k0_hw6 => k0_hw6.2.2.2.2
def k0_off4 (k0_t4 : Fin k0_t4_loop.trips) (c0_i32_56 : BitVec 32) : Fin 1 → Nat :=
  let c0_i32_26 : BitVec 32 := 0#32
  let c1_i32_28 : BitVec 32 := 1#32
  let arg15 : BitVec 32 := Scf.iv c0_i32_26 c1_i32_28 k0_t4
  let c5_i32 : BitVec 32 := 5#32
  let v52 : BitVec 32 := Scalar.muli arg15 c5_i32
  let v96 : BitVec 32 := Scalar.addi v52 c0_i32_56
  let c16_i32_57 : BitVec 32 := 16#32
  let v97 : BitVec 32 := Scalar.muli v96 c16_i32_57
  let v98 : Index := Scalar.indexCast v97
  ![v98.toNat]
def k0_off5 (i : grid0.Coords) (k0_t1 : Fin (k0_t1_loop i).trips) : Fin 2 → Nat :=
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c1250_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c1_i32_15 : BitVec 32 := 1#32
  let arg14 : BitVec 32 := Scf.iv v19 c1_i32_15 k0_t1
  let c800_i32 : BitVec 32 := 800#32
  let v45 : BitVec 32 := Scalar.muli arg14 c800_i32
  let c0_i32_34_r2 : BitVec 32 := 0#32
  ![v45.toNat, 0]
@[reducible] def k0_t6_loop (i : grid0.Coords) : Scf.Loop 32 :=
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c1250_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c1250_i32_5 : BitVec 32 := 1250#32
  let c1_i32_4 : BitVec 32 := 1#32
  let v20 : BitVec 32 := Scalar.addi v1 c1_i32_4
  let v21 : BitVec 32 := Scalar.muli c1250_i32_5 v20
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let v40 : BitVec 32 := Scalar.subi v38 v19
  let c1_i32_14 : BitVec 32 := 1#32
  let v42 : BitVec 32 := Scalar.divsi v40 c1_i32_14
  let v43 : BitVec 32 := Scalar.muli v42 c1_i32_14
  let v44 : BitVec 32 := Scalar.addi v19 v43
  let v41 : BitVec 32 := Scalar.addi v19 v40
  let c1_i32_16 : BitVec 32 := 1#32
  ⟨v44, v41, c1_i32_16⟩
def k0_off6 (i : grid0.Coords) (k0_t6 : Fin (k0_t6_loop i).trips) : Fin 1 → Nat :=
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c1250_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c1250_i32_5 : BitVec 32 := 1250#32
  let c1_i32_4 : BitVec 32 := 1#32
  let v20 : BitVec 32 := Scalar.addi v1 c1_i32_4
  let v21 : BitVec 32 := Scalar.muli c1250_i32_5 v20
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let v40 : BitVec 32 := Scalar.subi v38 v19
  let c1_i32_14 : BitVec 32 := 1#32
  let v42 : BitVec 32 := Scalar.divsi v40 c1_i32_14
  let v43 : BitVec 32 := Scalar.muli v42 c1_i32_14
  let v44 : BitVec 32 := Scalar.addi v19 v43
  let c1_i32_16 : BitVec 32 := 1#32
  let arg14 : BitVec 32 := Scf.iv v44 c1_i32_16 k0_t6
  let c800_i32 : BitVec 32 := 800#32
  let v45 : BitVec 32 := Scalar.muli arg14 c800_i32
  ![v45.toNat]
@[reducible] def k0_t7_loop : Scf.Loop 32 :=
  let c0_i32_18 : BitVec 32 := 0#32
  let c10_i32 : BitVec 32 := 10#32
  let v46 : BitVec 32 := Scalar.addi c0_i32_18 c10_i32
  let c1_i32_19 : BitVec 32 := 1#32
  ⟨c0_i32_18, v46, c1_i32_19⟩
def k0_off7 (k0_t7 : Fin k0_t7_loop.trips) (c0_i32_34 : BitVec 32) : Fin 1 → Nat :=
  let c0_i32_18 : BitVec 32 := 0#32
  let c1_i32_19 : BitVec 32 := 1#32
  let arg15 : BitVec 32 := Scf.iv c0_i32_18 c1_i32_19 k0_t7
  let c5_i32 : BitVec 32 := 5#32
  let v52 : BitVec 32 := Scalar.muli arg15 c5_i32
  let v53 : BitVec 32 := Scalar.addi v52 c0_i32_34
  let c16_i32 : BitVec 32 := 16#32
  let v54 : BitVec 32 := Scalar.muli v53 c16_i32
  let v55 : Index := Scalar.indexCast v54
  ![v55.toNat]
@[reducible] def k0_t8_loop : Scf.Loop 32 :=
  let c0_i32_42 : BitVec 32 := 0#32
  let c16_i32_43 : BitVec 32 := 16#32
  let v74 : BitVec 32 := Scalar.addi c0_i32_42 c16_i32_43
  let c1_i32_44 : BitVec 32 := 1#32
  ⟨c0_i32_42, v74, c1_i32_44⟩

def k0_chk7 (i : grid0.Coords) (k0_t6 : Fin (k0_t6_loop i).trips) (v109 : IVec S16 32) : Prop :=
  (∀ a x, ((![v109] : Fin 1 → IVec S16 32) a x).toNat < S65536.size a)
theorem k0_idx11_inb : ∀ (i : grid0.Coords) (k0_t6 : Fin (k0_t6_loop i).trips) (v109 : IVec S16 32) (k0_hw7 : k0_chk7 i k0_t6 v109), ∀ a x, ((![v109] : Fin 1 → IVec S16 32) a x).toNat < S65536.size a := fun i k0_t6 v109 k0_hw7 => k0_hw7

def k0_chk8 (i : grid0.Coords) (k0_t6 : Fin (k0_t6_loop i).trips) (v113 : IVec S16 32) : Prop :=
  (∀ a x, ((![v113] : Fin 1 → IVec S16 32) a x).toNat < S65536.size a)
theorem k0_idx12_inb : ∀ (i : grid0.Coords) (k0_t6 : Fin (k0_t6_loop i).trips) (v113 : IVec S16 32) (k0_hw8 : k0_chk8 i k0_t6 v113), ∀ a x, ((![v113] : Fin 1 → IVec S16 32) a x).toNat < S65536.size a := fun i k0_t6 v113 k0_hw8 => k0_hw8

def k0_chk9 (i : grid0.Coords) (k0_t6 : Fin (k0_t6_loop i).trips) (v117 : IVec S16 32) : Prop :=
  (∀ a x, ((![v117] : Fin 1 → IVec S16 32) a x).toNat < S65536.size a)
theorem k0_idx13_inb : ∀ (i : grid0.Coords) (k0_t6 : Fin (k0_t6_loop i).trips) (v117 : IVec S16 32) (k0_hw9 : k0_chk9 i k0_t6 v117), ∀ a x, ((![v117] : Fin 1 → IVec S16 32) a x).toNat < S65536.size a := fun i k0_t6 v117 k0_hw9 => k0_hw9

def k0_chk10 (i : grid0.Coords) (k0_t6 : Fin (k0_t6_loop i).trips) (v121 : IVec S16 32) : Prop :=
  (∀ a x, ((![v121] : Fin 1 → IVec S16 32) a x).toNat < S65536.size a)
theorem k0_idx14_inb : ∀ (i : grid0.Coords) (k0_t6 : Fin (k0_t6_loop i).trips) (v121 : IVec S16 32) (k0_hw10 : k0_chk10 i k0_t6 v121), ∀ a x, ((![v121] : Fin 1 → IVec S16 32) a x).toNat < S65536.size a := fun i k0_t6 v121 k0_hw10 => k0_hw10

def k0_chk11 (i : grid0.Coords) (k0_t6 : Fin (k0_t6_loop i).trips) (v125 : IVec S16 32) : Prop :=
  (∀ a x, ((![v125] : Fin 1 → IVec S16 32) a x).toNat < S65536.size a)
theorem k0_idx15_inb : ∀ (i : grid0.Coords) (k0_t6 : Fin (k0_t6_loop i).trips) (v125 : IVec S16 32) (k0_hw11 : k0_chk11 i k0_t6 v125), ∀ a x, ((![v125] : Fin 1 → IVec S16 32) a x).toNat < S65536.size a := fun i k0_t6 v125 k0_hw11 => k0_hw11
@[reducible] def k0_t9_loop : Scf.Loop 32 :=
  let c0_i32_26 : BitVec 32 := 0#32
  let c10_i32_27 : BitVec 32 := 10#32
  let v49 : BitVec 32 := Scalar.addi c0_i32_26 c10_i32_27
  let c1_i32_28 : BitVec 32 := 1#32
  ⟨c0_i32_26, v49, c1_i32_28⟩
def k0_off8 (k0_t9 : Fin k0_t9_loop.trips) (c0_i32_34 : BitVec 32) : Fin 1 → Nat :=
  let c0_i32_26 : BitVec 32 := 0#32
  let c1_i32_28 : BitVec 32 := 1#32
  let arg15 : BitVec 32 := Scf.iv c0_i32_26 c1_i32_28 k0_t9
  let c5_i32 : BitVec 32 := 5#32
  let v52 : BitVec 32 := Scalar.muli arg15 c5_i32
  let v53 : BitVec 32 := Scalar.addi v52 c0_i32_34
  let c16_i32 : BitVec 32 := 16#32
  let v54 : BitVec 32 := Scalar.muli v53 c16_i32
  let v55 : Index := Scalar.indexCast v54
  ![v55.toNat]
@[reducible] def k0_t10_loop : Scf.Loop 32 :=
  let c0_i32_52 : BitVec 32 := 0#32
  let c16_i32_53 : BitVec 32 := 16#32
  let v94 : BitVec 32 := Scalar.addi c0_i32_52 c16_i32_53
  let c1_i32_54 : BitVec 32 := 1#32
  ⟨c0_i32_52, v94, c1_i32_54⟩

def k0_chk12 (i : grid0.Coords) (k0_t6 : Fin (k0_t6_loop i).trips) (v76 : IVec S16 32) (v80 : IVec S16 32) (v84 : IVec S16 32) (v88 : IVec S16 32) (v92 : IVec S16 32) (v163 : IVec S16 32) : Prop :=
  (∀ a x, ((![v76, v163] : Fin 2 → IVec S16 32) a x).toNat < S800x16.size a) ∧
  (∀ a x, ((![v80, v163] : Fin 2 → IVec S16 32) a x).toNat < S800x16.size a) ∧
  (∀ a x, ((![v84, v163] : Fin 2 → IVec S16 32) a x).toNat < S800x16.size a) ∧
  (∀ a x, ((![v88, v163] : Fin 2 → IVec S16 32) a x).toNat < S800x16.size a) ∧
  (∀ a x, ((![v92, v163] : Fin 2 → IVec S16 32) a x).toNat < S800x16.size a)
theorem k0_idx16_inb : ∀ (i : grid0.Coords) (k0_t6 : Fin (k0_t6_loop i).trips) (v76 : IVec S16 32) (v80 : IVec S16 32) (v84 : IVec S16 32) (v88 : IVec S16 32) (v92 : IVec S16 32) (v163 : IVec S16 32) (k0_hw12 : k0_chk12 i k0_t6 v76 v80 v84 v88 v92 v163), ∀ a x, ((![v76, v163] : Fin 2 → IVec S16 32) a x).toNat < S800x16.size a := fun i k0_t6 v76 v80 v84 v88 v92 v163 k0_hw12 => k0_hw12.1
theorem k0_idx17_inb : ∀ (i : grid0.Coords) (k0_t6 : Fin (k0_t6_loop i).trips) (v76 : IVec S16 32) (v80 : IVec S16 32) (v84 : IVec S16 32) (v88 : IVec S16 32) (v92 : IVec S16 32) (v163 : IVec S16 32) (k0_hw12 : k0_chk12 i k0_t6 v76 v80 v84 v88 v92 v163), ∀ a x, ((![v80, v163] : Fin 2 → IVec S16 32) a x).toNat < S800x16.size a := fun i k0_t6 v76 v80 v84 v88 v92 v163 k0_hw12 => k0_hw12.2.1
theorem k0_idx18_inb : ∀ (i : grid0.Coords) (k0_t6 : Fin (k0_t6_loop i).trips) (v76 : IVec S16 32) (v80 : IVec S16 32) (v84 : IVec S16 32) (v88 : IVec S16 32) (v92 : IVec S16 32) (v163 : IVec S16 32) (k0_hw12 : k0_chk12 i k0_t6 v76 v80 v84 v88 v92 v163), ∀ a x, ((![v84, v163] : Fin 2 → IVec S16 32) a x).toNat < S800x16.size a := fun i k0_t6 v76 v80 v84 v88 v92 v163 k0_hw12 => k0_hw12.2.2.1
theorem k0_idx19_inb : ∀ (i : grid0.Coords) (k0_t6 : Fin (k0_t6_loop i).trips) (v76 : IVec S16 32) (v80 : IVec S16 32) (v84 : IVec S16 32) (v88 : IVec S16 32) (v92 : IVec S16 32) (v163 : IVec S16 32) (k0_hw12 : k0_chk12 i k0_t6 v76 v80 v84 v88 v92 v163), ∀ a x, ((![v88, v163] : Fin 2 → IVec S16 32) a x).toNat < S800x16.size a := fun i k0_t6 v76 v80 v84 v88 v92 v163 k0_hw12 => k0_hw12.2.2.2.1
theorem k0_idx20_inb : ∀ (i : grid0.Coords) (k0_t6 : Fin (k0_t6_loop i).trips) (v76 : IVec S16 32) (v80 : IVec S16 32) (v84 : IVec S16 32) (v88 : IVec S16 32) (v92 : IVec S16 32) (v163 : IVec S16 32) (k0_hw12 : k0_chk12 i k0_t6 v76 v80 v84 v88 v92 v163), ∀ a x, ((![v92, v163] : Fin 2 → IVec S16 32) a x).toNat < S800x16.size a := fun i k0_t6 v76 v80 v84 v88 v92 v163 k0_hw12 => k0_hw12.2.2.2.2
def k0_off9 (k0_t9 : Fin k0_t9_loop.trips) (c0_i32_56 : BitVec 32) : Fin 1 → Nat :=
  let c0_i32_26 : BitVec 32 := 0#32
  let c1_i32_28 : BitVec 32 := 1#32
  let arg15 : BitVec 32 := Scf.iv c0_i32_26 c1_i32_28 k0_t9
  let c5_i32 : BitVec 32 := 5#32
  let v52 : BitVec 32 := Scalar.muli arg15 c5_i32
  let v96 : BitVec 32 := Scalar.addi v52 c0_i32_56
  let c16_i32_57 : BitVec 32 := 16#32
  let v97 : BitVec 32 := Scalar.muli v96 c16_i32_57
  let v98 : Index := Scalar.indexCast v97
  ![v98.toNat]
def k0_off10 (i : grid0.Coords) (k0_t6 : Fin (k0_t6_loop i).trips) : Fin 2 → Nat :=
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.muli c1250_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c1250_i32_5 : BitVec 32 := 1250#32
  let c1_i32_4 : BitVec 32 := 1#32
  let v20 : BitVec 32 := Scalar.addi v1 c1_i32_4
  let v21 : BitVec 32 := Scalar.muli c1250_i32_5 v20
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c32_i32_6 : BitVec 32 := 32#32
  let c0_i32_9 : BitVec 32 := 0#32
  let v28 : BitVec 1 := Scalar.cmpi .sgt c32_i32_6 c0_i32_9
  let v29 : BitVec 32 := Scalar.extui v28
  let c0_i32_10 : BitVec 32 := 0#32
  let v30 : BitVec 1 := Scalar.cmpi .slt c32_i32_6 c0_i32_10
  let v31 : BitVec 32 := Scalar.extui v30
  let v32 : BitVec 32 := Scalar.subi v29 v31
  let v33 : BitVec 1 := Scalar.cmpi .ne v27 v32
  let v34 : BitVec 32 := Scalar.remsi v21 c32_i32_6
  let c0_i32_11 : BitVec 32 := 0#32
  let v35 : BitVec 1 := Scalar.cmpi .ne v34 c0_i32_11
  let v36 : BitVec 1 := Scalar.andi v33 v35
  let v22 : BitVec 32 := Scalar.divsi v21 c32_i32_6
  let c1_i32_12 : BitVec 32 := 1#32
  let v37 : BitVec 32 := Scalar.subi v22 c1_i32_12
  let v38 : BitVec 32 := Scalar.select v36 v37 v22
  let v40 : BitVec 32 := Scalar.subi v38 v19
  let c1_i32_14 : BitVec 32 := 1#32
  let v42 : BitVec 32 := Scalar.divsi v40 c1_i32_14
  let v43 : BitVec 32 := Scalar.muli v42 c1_i32_14
  let v44 : BitVec 32 := Scalar.addi v19 v43
  let c1_i32_16 : BitVec 32 := 1#32
  let arg14 : BitVec 32 := Scf.iv v44 c1_i32_16 k0_t6
  let c800_i32 : BitVec 32 := 800#32
  let v45 : BitVec 32 := Scalar.muli arg14 c800_i32
  let c0_i32_34_r4 : BitVec 32 := 0#32
  ![v45.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1000000x16 : Shape := ⟨2, ![1000000, 16]⟩
abbrev S16x64 : Shape := ⟨2, ![16, 64]⟩
abbrev S64 : Shape := ⟨1, ![64]⟩
abbrev S64x1 : Shape := ⟨2, ![64, 1]⟩
abbrev S1 : Shape := ⟨1, ![1]⟩
abbrev S1000000 : Shape := ⟨1, ![1000000]⟩
abbrev S1000000x64 : Shape := ⟨2, ![1000000, 64]⟩
abbrev S1x64 : Shape := ⟨2, ![1, 64]⟩
abbrev S1000000x1 : Shape := ⟨2, ![1000000, 1]⟩
abbrev S1x1 : Shape := ⟨2, ![1, 1]⟩
abbrev S_ : Shape := ⟨0, ![]⟩
abbrev S1x1000000 : Shape := ⟨2, ![1, 1000000]⟩
abbrev S1000000x1000000 : Shape := ⟨2, ![1000000, 1000000]⟩

abbrev nBuf : Space → Nat
  | .hbm => 49
  | .vmem => 0
  | .smem => 0
  | _ => 0

abbrev bufTy : (tb : Table) → Fin (tcTables nBuf tb) → BufTy
  | .hbm, ⟨0, _⟩ => ⟨S1000000x16, .f32⟩
  | .hbm, ⟨1, _⟩ => ⟨S16x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S1000000, .f32⟩
  | .hbm, ⟨6, _⟩ => ⟨S1000000x64, .f32⟩
  | .hbm, ⟨7, _⟩ => ⟨S1x64, .f32⟩
  | .hbm, ⟨8, _⟩ => ⟨S1000000x64, .f32⟩
  | .hbm, ⟨9, _⟩ => ⟨S1000000x64, .f32⟩
  | .hbm, ⟨10, _⟩ => ⟨S1000000x64, .f32⟩
  | .hbm, ⟨11, _⟩ => ⟨S1000000x1, .f32⟩
  | .hbm, ⟨12, _⟩ => ⟨S1x1, .f32⟩
  | .hbm, ⟨13, _⟩ => ⟨S1000000x1, .f32⟩
  | .hbm, ⟨14, _⟩ => ⟨S1000000x1, .f32⟩
  | .hbm, ⟨15, _⟩ => ⟨S1000000, .f32⟩
  | .hbm, ⟨16, _⟩ => ⟨S1000000, .f32⟩
  | .hbm, ⟨17, _⟩ => ⟨S_, .f32⟩
  | .hbm, ⟨18, _⟩ => ⟨S_, .f32⟩
  | .hbm, ⟨19, _⟩ => ⟨S1000000, .f32⟩
  | .hbm, ⟨20, _⟩ => ⟨S1000000, .f32⟩
  | .hbm, ⟨21, _⟩ => ⟨S_, .f32⟩
  | .hbm, ⟨22, _⟩ => ⟨S_, .f32⟩
  | .hbm, ⟨23, _⟩ => ⟨S1000000, .f32⟩
  | .hbm, ⟨24, _⟩ => ⟨S1x1000000, .f32⟩
  | .hbm, ⟨25, _⟩ => ⟨S1000000x1, .f32⟩
  | .hbm, ⟨26, _⟩ => ⟨S1000000x1000000, .f32⟩
  | .hbm, ⟨27, _⟩ => ⟨S1000000x1000000, .f32⟩
  | .hbm, ⟨28, _⟩ => ⟨S1000000x1000000, .i1⟩
  | .hbm, ⟨29, _⟩ => ⟨S1000000x1000000, .i32⟩
  | .hbm, ⟨30, _⟩ => ⟨S_, .i32⟩
  | .hbm, ⟨31, _⟩ => ⟨S1000000, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S1000000, .i32⟩
  | .hbm, ⟨36, _⟩ => ⟨S1000000, .i32⟩
  | .hbm, ⟨37, _⟩ => ⟨S_, .i32⟩
  | .hbm, ⟨38, _⟩ => ⟨S1000000, .i32⟩
  | .hbm, ⟨39, _⟩ => ⟨S1000000, .i32⟩
  | .hbm, ⟨40, _⟩ => ⟨S_, .i32⟩
  | .hbm, ⟨41, _⟩ => ⟨S1000000, .i32⟩
  | .hbm, ⟨42, _⟩ => ⟨S1000000, .i1⟩
  | .hbm, ⟨43, _⟩ => ⟨S_, .i32⟩
  | .hbm, ⟨44, _⟩ => ⟨S1000000, .i32⟩
  | .hbm, ⟨45, _⟩ => ⟨S1000000, .i32⟩
  | .hbm, ⟨46, _⟩ => ⟨S1000000, .i32⟩
  | .hbm, ⟨47, _⟩ => ⟨S1000000x1, .i32⟩
  | .hbm, ⟨48, _⟩ => ⟨S1000000x16, .f32⟩
  | _, _ => ⟨S1000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_call0_cst : Ref sig .tc := ⟨.hbm, 21, rfl⟩
abbrev main_call0_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.hbm, 30, rfl⟩
abbrev main_v21 : Ref sig .tc := ⟨.hbm, 31, rfl⟩
abbrev main_c_0 : Ref sig .tc := ⟨.hbm, 32, rfl⟩
abbrev main_c_1 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v22 : Ref sig .tc := ⟨.hbm, 39, rfl⟩
abbrev main_c_2 : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩

abbrev nD : Nat := 1
abbrev τ : Topo := Topo.v7x

variable {F : FTy → Type} [FloatOps F]
-- ==== Proof.Search.lean ====
/-
  The two searches a tile runs for one query, as plain functions of natural numbers: the coarse search over the table
  of block ends, and the count within one block of sixteen. Both are stated for any float model, over the comparison
  the model gives; the lane-by-lane payloads of the kernel are these functions, lane by lane.
-/
module

public import proofs.«01_k».proof.Defs
public import Idealize.ShloMosaic.Lib.ValueIdxCore
public import proofs.«01_k».proof.Proof.Gen.KernelIdeal
public import proofs.«01_k».proof.Proof.Gen.KernelIdeal.Skeleton

@[expose] public section

noncomputable section

namespace Cert.Proof.Search

open Cert.KernelIdeal Cert.KernelIdeal.Gen
open Idealize.ShloMosaic Idealize.ShloMosaic.ValueIdx

variable {F : FTy → Type} [FloatOps F]

/-- The entry of the coarse table at `n`, the last one if `n` is past the end. -/
abbrev tabIx (n : ℕ) : S65536.Idx := ix1 (⟨min n 65535, by omega⟩ : Fin 65536)

/-- Column `k` of block `b` of the fine table, the last block if `b` is past the end. -/
abbrev blkIx (b k : ℕ) : S62500x16.Idx := ix2 (⟨min b 62499, by omega⟩ : Fin 62500) (⟨k % 16, by omega⟩ : Fin 16)

/-- Row `p` of the data, column `c`. -/
abbrev rowIx (p : ℕ) (c : Fin 16) : S1000000x16.Idx := ix2 (⟨min p 999999, by omega⟩ : Fin 1000000) c

/-- "`a` is below `b`", as the float model's comparison decides it. -/
abbrev Below (a b : F .f32) : Prop := FloatOps.cmpf .olt a b = 1

/-- The position the binary search stands at after `l` of its sixteen levels: level `l` moves on by `2 ^ (15 - l)` when the
    entry just before the new position is below the query. -/
def coarse (ct : Vec F S65536 .f32) (u : F .f32) : ℕ → ℕ
  | 0 => 0
  | l + 1 => coarse ct u l + if Below (ct (tabIx (coarse ct u l + 2 ^ (15 - l) - 1))) u then 2 ^ (15 - l) else 0

/-- How many of the first `k` entries of a block are below the query. -/
def cnt (row : ℕ → F .f32) (u : F .f32) : ℕ → ℕ
  | 0 => 0
  | k + 1 => cnt row u k + if Below (row k) u then 1 else 0

/-- The block the query falls in. -/
def blk (ct : Vec F S65536 .f32) (u : F .f32) : ℕ := min (coarse ct u 16) 62499

/-- The row the query draws. -/
def pos (ct : Vec F S65536 .f32) (cd : Vec F S62500x16 .f32) (u : F .f32) : ℕ :=
  min (blk ct u * 16 + cnt (fun k => cd (blkIx (blk ct u) k)) u 16) 999999

/-- After `l` levels at most `65536 - 2 ^ (16 - l)`: the entries still to be looked at lie inside the table. -/
theorem coarse_add_le (ct : Vec F S65536 .f32) (u : F .f32) : ∀ l, l ≤ 16 → coarse ct u l + 2 ^ (16 - l) ≤ 65536
  | 0, _ => by simp [coarse]
  | l + 1, h => by
    have ih := coarse_add_le ct u l (by omega)
    have e : 2 ^ (16 - l) = 2 ^ (15 - l) + 2 ^ (15 - l) := by
      rw [show 16 - l = (15 - l) + 1 by omega, pow_succ]; omega
    have h0 : 0 < 2 ^ (15 - l) := by positivity
    rw [show 16 - (l + 1) = 15 - l by omega, coarse]
    split <;> omega

/-- The search stays inside the table. -/
theorem coarse_lt (ct : Vec F S65536 .f32) (u : F .f32) {l : ℕ} (h : l ≤ 16) : coarse ct u l < 65536 := by
  have := coarse_add_le ct u l h
  have : 0 < 2 ^ (16 - l) := by positivity
  omega

/-- Of `k` entries at most `k` are below the query. -/
theorem cnt_le (row : ℕ → F .f32) (u : F .f32) : ∀ k, cnt row u k ≤ k
  | 0 => le_rfl
  | k + 1 => by
    have := cnt_le row u k
    rw [cnt]; split <;> omega

/-- Two blocks that agree on their first `k` entries have the same count. -/
theorem cnt_congr {row row' : ℕ → F .f32} (u : F .f32) : ∀ k, (∀ i < k, row i = row' i) → cnt row u k = cnt row' u k
  | 0, _ => rfl
  | k + 1, h => by rw [cnt, cnt, cnt_congr u k (fun i hi => h i (by omega)), h k (by omega)]

/-- The block is one of the 62500, -/
theorem blk_le (ct : Vec F S65536 .f32) (u : F .f32) : blk ct u ≤ 62499 := min_le_right _ _
/-- and the row one of the million. -/
theorem pos_le (ct : Vec F S65536 .f32) (cd : Vec F S62500x16 .f32) (u : F .f32) : pos ct cd u ≤ 999999 := min_le_right _ _

/-! ## Lanes -/

/-- Sixteen lanes holding the given numbers. -/
def lanes (g : S16.Idx → ℕ) : IVec S16 32 := fun x => BitVec.ofNat 32 (g x)

/-- The lanes after `l` levels of the search for the queries `u`. -/
abbrev coarseV (ct : Vec F S65536 .f32) (u : Vec F S16 .f32) (l : ℕ) : IVec S16 32 := lanes fun x => coarse ct (u x) l

/-- The step at level `k` is `2 ^ (15 - k)`. -/
theorem step_eq : ∀ k : Fin k0_t3_loop.trips, Scalar.shrsi 32768#32 (Scf.iv 0#32 1#32 k) = BitVec.ofNat 32 (2 ^ (15 - k.val)) := by
  decide +kernel

/-- A level's number is below sixteen, -/
theorem t3_lt (k : Fin k0_t3_loop.trips) : k.val < 16 := lt_of_lt_of_le k.isLt k0_t3_abs.2.1
/-- and so is a column's. -/
theorem t5_lt (k : Fin k0_t5_loop.trips) : k.val < 16 := lt_of_lt_of_le k.isLt k0_t5_abs.2.1

/-- A step is at most half the table. -/
theorem two_pow_le (k : ℕ) : 2 ^ (15 - k) ≤ 32768 :=
  (Nat.pow_le_pow_right (by omega) (by omega : 15 - k ≤ 15)).trans (by norm_num)

/-- The index each lane looks up at level `k`. -/
theorem probe_eq (ct : Vec F S65536 .f32) (u : Vec F S16 .f32) (k : Fin k0_t3_loop.trips) :
    k0_pay13 0#32 1#32 k (coarseV ct u k.val) = lanes fun x => coarse ct (u x) k.val + 2 ^ (15 - k.val) - 1 := by
  funext x
  show BitVec.ofNat 32 _ + (Scalar.shrsi 32768#32 (Scf.iv 0#32 1#32 k) - 1#32) = BitVec.ofNat 32 _
  rw [step_eq]
  have h1 : 1 ≤ 2 ^ (15 - k.val) := Nat.one_le_two_pow
  have h2 := two_pow_le k.val
  have h3 := coarse_lt ct (u x) (t3_lt k).le
  apply BitVec.eq_of_toNat_eq
  simp only [BitVec.toNat_add, BitVec.toNat_sub, BitVec.toNat_ofNat]
  omega

/-- What the lanes become when level `k`'s entries have been read. -/
theorem move_eq (ct : Vec F S65536 .f32) (u v : Vec F S16 .f32) (k : Fin k0_t3_loop.trips)
    (hv : ∀ x, v x = ct (tabIx (coarse ct (u x) k.val + 2 ^ (15 - k.val) - 1))) :
    k0_pay18 u 0#32 1#32 k (coarseV ct u k.val) v = coarseV ct u (k.val + 1) := by
  funext x
  show BitVec.ofNat 32 _ + (if FloatOps.cmpf .olt (v x) (u x) = 1 then Scalar.shrsi 32768#32 (Scf.iv 0#32 1#32 k) else 0#32) = BitVec.ofNat 32 (coarse ct (u x) (k.val + 1))
  rw [step_eq, hv, coarse]
  split
  · rw [← BitVec.ofNat_add]
  · rw [Nat.add_zero, BitVec.add_zero]

/-- Every index looked up is inside the table. -/
theorem probe_lt (ct : Vec F S65536 .f32) (u : Vec F S16 .f32) (k : Fin k0_t3_loop.trips) (x : S16.Idx) :
    ((lanes fun x => coarse ct (u x) k.val + 2 ^ (15 - k.val) - 1) x).toNat = coarse ct (u x) k.val + 2 ^ (15 - k.val) - 1
      ∧ coarse ct (u x) k.val + 2 ^ (15 - k.val) - 1 < 65536 := by
  have h1 : 1 ≤ 2 ^ (15 - k.val) := Nat.one_le_two_pow
  have h2 := coarse_add_le ct (u x) k.val (t3_lt k).le
  have e : 2 ^ (16 - k.val) = 2 ^ (15 - k.val) + 2 ^ (15 - k.val) := by
    have := t3_lt k
    rw [show 16 - k.val = (15 - k.val) + 1 by omega, pow_succ]; omega
  refine ⟨?_, by omega⟩
  show (BitVec.ofNat 32 (coarse ct (u x) k.val + 2 ^ (15 - k.val) - 1)).toNat = _
  rw [BitVec.toNat_ofNat]
  omega

/-! ## The count, lane by lane -/

/-- Entry `k` of the block fetched for query `q` of a chunk. -/
def fineCol (f : Vec F S800x16 .f32) (q : ℕ) : ℕ → F .f32 :=
  fun k => f (ix2 (⟨min q 799, by omega⟩ : Fin 800) (⟨k % 16, by omega⟩ : Fin 16))

/-- The lanes after `k` steps of the count, lane `x` counting in the block of query `r x`. -/
abbrev cntV (f : Vec F S800x16 .f32) (r : S16.Idx → ℕ) (u : Vec F S16 .f32) (k : ℕ) : IVec S16 32 :=
  lanes fun x => cnt (fineCol f (r x)) (u x) k

/-- At step `k` every lane reads column `k`. -/
theorem col_eq (k : Fin k0_t5_loop.trips) : k0_pay34 k = lanes fun _ => k.val := by
  funext x
  show 0#32 + Scf.iv 0#32 1#32 k = BitVec.ofNat 32 k.val
  show 0#32 + (0#32 + BitVec.ofNat 32 k.val * 1#32) = BitVec.ofNat 32 k.val
  simp

/-- A lane holding a small number reads back as that number. -/
theorem lanes_toNat (g : S16.Idx → ℕ) (x : S16.Idx) (h : g x < 2 ^ 32) : (lanes g x).toNat = g x := by
  show (BitVec.ofNat 32 (g x)).toNat = g x
  rw [BitVec.toNat_ofNat, Nat.mod_eq_of_lt h]

/-- What the lanes become when step `k`'s entries have been read. -/
theorem tally_eq (f : Vec F S800x16 .f32) (r : S16.Idx → ℕ) (u v : Vec F S16 .f32) (k : Fin k0_t5_loop.trips)
    (hv : ∀ x, v x = fineCol f (r x) k.val) :
    k0_pay35 u (cntV f r u k.val) v = cntV f r u (k.val + 1) := by
  funext x
  show BitVec.ofNat 32 _ + (if FloatOps.cmpf .olt (v x) (u x) = 1 then 1#32 else 0#32) = BitVec.ofNat 32 (cnt (fineCol f (r x)) (u x) (k.val + 1))
  rw [hv, cnt]
  split
  · rw [← BitVec.ofNat_add]
  · rw [Nat.add_zero, BitVec.add_zero]

/-- The lesser of two words that are small numbers. -/
theorem minsi_ofNat {a b : ℕ} (ha : a < 2 ^ 31) (hb : b < 2 ^ 31) :
    IntOp.minsi (BitVec.ofNat 32 a) (BitVec.ofNat 32 b) = BitVec.ofNat 32 (min a b) := by
  have e : ∀ n, n < 2 ^ 31 → (BitVec.ofNat 32 n).toInt = (n : ℤ) := fun n hn => by
    rw [BitVec.toInt_eq_toNat_of_lt] <;> rw [BitVec.toNat_ofNat, Nat.mod_eq_of_lt (by omega)]; omega
  show (if (BitVec.ofNat 32 a).slt (BitVec.ofNat 32 b) = true then _ else _) = _
  split <;> rename_i h <;> rw [BitVec.slt_iff_toInt_lt, e a ha, e b hb] at h
  · rw [min_eq_left (by omega)]
  · rw [min_eq_right (by omega)]

/-- The block stored for a lane whose search is over. -/
theorem blk_lane (ct : Vec F S65536 .f32) (u : Vec F S16 .f32) (x : S16.Idx) :
    k0_pay26 (coarseV ct u 16) x = BitVec.ofNat 32 (blk ct (u x)) := by
  have := coarse_lt ct (u x) (le_refl 16)
  exact minsi_ofNat (a := coarse ct (u x) 16) (b := 62499) (by omega) (by omega)

/-- The first `n` of a chunk's 800 entries are `G`'s. -/
def Done {α : Type} (G : S800.Idx → α) (n : ℕ) (g : S800.Idx → α) : Prop := ∀ q : S800.Idx, (q 0).val < n → g q = G q

/-- Pieces that hold `G` and cover the next `k` entries: that many more are done. -/
theorem done_writes {κ : Kind} {sp : Space} {e : EltTy} (v : View sig κ sp S800 e) (f : v.ty.Contents (Elt F))
    (L : List (View.Piece (Elt F) S800 e)) (G : S800.Idx → Elt F e) (n k : ℕ)
    (hL : ∀ p ∈ L, ∀ x : p.1.shape.Idx, p.2 x = G (p.1.emb x))
    (hc : ∀ q : S800.Idx, n ≤ (q 0).val → (q 0).val < n + k → ∃ p ∈ L, q ∈ p.1.set)
    (hf : Done G n (v.read (Elt F) f)) : Done G (n + k) (v.read (Elt F) (v.writes (Elt F) f L)) := by
  intro q hq
  by_cases h : ∃ p ∈ L, q ∈ p.1.set
  · exact View.read_writes_apply_of_pieces v f G L hL q h
  · rw [View.read_writes_apply_of_forall_not_mem v f q L (fun p hp hm => h ⟨p, hp, hm⟩)]
    exact hf q (by by_contra hn; exact h (hc q (by omega) hq))

/-- A stretch of sixteen from `n` on contains `q` when `n ≤ q < n + 16`. -/
theorem mem_stretch {o : Fin 1 → ℕ} {h : ∀ a, o a + S16.size a ≤ S800.size a} {n : ℕ} (ho : o = ![n]) {q : S800.Idx}
    (h1 : n ≤ (q 0).val) (h2 : (q 0).val < n + 16) : q ∈ (Rect.unit (s := S800) o S16.size h).set := by
  rw [Rect.mem_set_unit]
  intro a
  match a with
  | 0 => subst ho; exact ⟨h1, h2⟩

end Cert.Proof.Search

end
-- ==== Proof.Setup.lean ====
/-
  The program as the launch theorem sees it, the resource algebra, and the names the tile's proof uses for its memrefs:
  the four operands in HBM (the coarse table, the fine table, the queries, the data), the result, and the six scratch
  buffers of a tile.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Tactic
public import proofs.«01_k».proof.Proof.Search

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels of the launch. -/
abbrev ΛP : Labels := Pipeline.Sig Λ₀ (Fin 0) fun p => (pcfgs (F := F) p).Adm
/-- The SparseCore call. -/
abbrev K : SparseCore.Cfg τ sig (ΛP (F := F)) 1 := sc (F := F)
/-- Its definitions. -/
abbrev D [FloatOps F] : Defs nD τ sig (Elt F) (ΛP (F := F)) := Pipeline.defs pcfgs defs₀
/-- There are no loop variants to choose, -/
abbrev 𝒱₀ : Variants := Variants.none
/-- in the launch either, -/
abbrev 𝒱 : Variants := 𝒱₀.lift
/-- so the one at the start is this. -/
abbrev v₀ : 𝒱.V := Sum.inl none

/-- The launch's semaphores are distinct and unscoped, and nothing a task holds is shared. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state of the launch's handshakes, -/
abbrev UH : Type := URounds (GSem nD τ sig) ℕ
/-- with the counters beside it, -/
abbrev UU : Type := UH × Counters
/-- and where the first sits in the whole. -/
abbrev EH : Emb UH (MT nD τ sig (HIx 1) (Elt F) ℕ UU ℕ) := embL

/-- The tile a grid coordinate names. -/
abbrev cV (L : grid0.Coords) : Fin τ.nSC := (L 0).castLE hcore0
/-- The tile's subcore. -/
abbrev jV (L : grid0.Coords) : Fin τ.nSub := (L 1).castLE hsub0

/-- The coarse table, as the tile is given it; -/
abbrev ctM : Memref sig .scVector .hbm S65536 .f32 := Memref.whole main_v19_scv
/-- the fine table; -/
abbrev cdM : Memref sig .scVector .hbm S62500x16 .f32 := Memref.whole main_v15_scv
/-- the queries; -/
abbrev uM : Memref sig .scVector .hbm S1000000 .f32 := Memref.whole main_arg5_scv
/-- the data; -/
abbrev xM : Memref sig .scVector .hbm S1000000x16 .f32 := Memref.whole main_arg0_scv
/-- the result. -/
abbrev oM : Memref sig .scVector .hbm S1000000x16 .f32 := Memref.whole main_v20_scv
/-- The tile's own buffers: its copy of the coarse table, -/
abbrev tabM : Memref sig .scVector .vmem S65536 .f32 := Memref.whole cc0_scratch0
/-- a chunk's queries, -/
abbrev quM : Memref sig .scVector .vmem S800 .f32 := Memref.whole cc0_scratch1
/-- their block numbers, -/
abbrev blkM : Memref sig .scVector .vmem S800 .i32 := Memref.whole cc0_scratch2
/-- the blocks fetched, -/
abbrev fineM : Memref sig .scVector .vmem S800x16 .f32 := Memref.whole cc0_scratch3
/-- the draws, -/
abbrev posM : Memref sig .scVector .vmem S800 .i32 := Memref.whole cc0_scratch4
/-- and the rows taken. -/
abbrev rowsM : Memref sig .scVector .vmem S800x16 .f32 := Memref.whole cc0_scratch5

variable [FloatOps F]

/-- The loop bodies of a tile's program over those memrefs. -/
abbrev bodyT (L : grid0.Coords) :=
  cc0__sc_body (F := F) L ctM (Memref.isWhole_whole _) cdM (Memref.isWhole_whole _) uM (Memref.isWhole_whole _) xM (Memref.isWhole_whole _)
    oM (Memref.isWhole_whole _) tabM (Memref.isWhole_whole _) quM (Memref.isWhole_whole _) blkM (Memref.isWhole_whole _)
    fineM (Memref.isWhole_whole _) posM (Memref.isWhole_whole _) rowsM (Memref.isWhole_whole _)
    cc0_scratch6 cc0_scoped0 cc0_scoped1 cc0_scoped2 cc0_scoped3 cc0_scoped4
/-- One chunk; -/
abbrev chunkT (L : grid0.Coords) :=
  k0_t1_body (F := F) L ctM (Memref.isWhole_whole _) cdM (Memref.isWhole_whole _) uM (Memref.isWhole_whole _) xM (Memref.isWhole_whole _)
    oM (Memref.isWhole_whole _) tabM (Memref.isWhole_whole _) quM (Memref.isWhole_whole _) blkM (Memref.isWhole_whole _)
    fineM (Memref.isWhole_whole _) posM (Memref.isWhole_whole _) rowsM (Memref.isWhole_whole _)
    cc0_scratch6 cc0_scoped0 cc0_scoped1 cc0_scoped2 cc0_scoped3 cc0_scoped4
/-- the search for eighty queries of it; -/
abbrev blocksT (L : grid0.Coords) :=
  k0_t2_body (F := F) L ctM (Memref.isWhole_whole _) cdM (Memref.isWhole_whole _) uM (Memref.isWhole_whole _) xM (Memref.isWhole_whole _)
    oM (Memref.isWhole_whole _) tabM (Memref.isWhole_whole _) quM (Memref.isWhole_whole _) blkM (Memref.isWhole_whole _)
    fineM (Memref.isWhole_whole _) posM (Memref.isWhole_whole _) rowsM (Memref.isWhole_whole _)
    cc0_scratch6 cc0_scoped0 cc0_scoped1 cc0_scoped2 cc0_scoped3 cc0_scoped4
/-- one level of that search; -/
abbrev searchT (L : grid0.Coords) :=
  k0_t3_body (F := F) L ctM (Memref.isWhole_whole _) cdM (Memref.isWhole_whole _) uM (Memref.isWhole_whole _) xM (Memref.isWhole_whole _)
    oM (Memref.isWhole_whole _) tabM (Memref.isWhole_whole _) quM (Memref.isWhole_whole _) blkM (Memref.isWhole_whole _)
    fineM (Memref.isWhole_whole _) posM (Memref.isWhole_whole _) rowsM (Memref.isWhole_whole _)
    cc0_scratch6 cc0_scoped0 cc0_scoped1 cc0_scoped2 cc0_scoped3 cc0_scoped4
/-- the count for eighty queries; -/
abbrev drawsT (L : grid0.Coords) :=
  k0_t4_body (F := F) L ctM (Memref.isWhole_whole _) cdM (Memref.isWhole_whole _) uM (Memref.isWhole_whole _) xM (Memref.isWhole_whole _)
    oM (Memref.isWhole_whole _) tabM (Memref.isWhole_whole _) quM (Memref.isWhole_whole _) blkM (Memref.isWhole_whole _)
    fineM (Memref.isWhole_whole _) posM (Memref.isWhole_whole _) rowsM (Memref.isWhole_whole _)
    cc0_scratch6 cc0_scoped0 cc0_scoped1 cc0_scoped2 cc0_scoped3 cc0_scoped4
/-- one step of that count. -/
abbrev countT (L : grid0.Coords) :=
  k0_t5_body (F := F) L ctM (Memref.isWhole_whole _) cdM (Memref.isWhole_whole _) uM (Memref.isWhole_whole _) xM (Memref.isWhole_whole _)
    oM (Memref.isWhole_whole _) tabM (Memref.isWhole_whole _) quM (Memref.isWhole_whole _) blkM (Memref.isWhole_whole _)
    fineM (Memref.isWhole_whole _) posM (Memref.isWhole_whole _) rowsM (Memref.isWhole_whole _)
    cc0_scratch6 cc0_scoped0 cc0_scoped1 cc0_scoped2 cc0_scoped3 cc0_scoped4

end Cert.Proof.Run

end
-- ==== Proof.Lookups.lean ====
/-
  The two innermost loops of a tile: the sixteen levels of the search, five vectors of queries at a time, and the sixteen
  steps of the count within each query's block.
-/
module

public import proofs.«01_k».proof.Proof.Setup

@[expose] public section

noncomputable section

namespace Cert.Proof.Run

open Cert.KernelIdeal Cert.KernelIdeal.Gen Cert.Proof.Search

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Tactic

variable {F : FTy → Type} [FloatOps F]

local notation "𝕄" => MT nD τ sig (HIx 1) (Elt F) ℕ UU ℕ

variable (d : Dev nD) (L : grid0.Coords)

/-- The coarse table in the tile's memory. -/
abbrev tabPts (ct : Vec F S65536 .f32) : sProp 𝕄 := (tabM).view.loc (V d (cV L) (jV L)) ↦{fullShare} ct
/-- The fetched blocks in the tile's memory. -/
abbrev finePts (f : Vec F S800x16 .f32) : sProp 𝕄 := (fineM).view.loc (V d (cV L) (jV L)) ↦{fullShare} f

omit [FloatOps F] in
/-- The lookup's view of the coarse table is the table whole, -/
theorem tabPts_access (ct : Vec F S65536 .f32) :
    (tabPts d L ct : sProp 𝕄) = ((tabM).access (.whole S65536)).loc (V d (cV L) (jV L)) ↦[Finset.univ]{fullShare} ct := rfl
omit [FloatOps F] in
/-- and reads it as it stands. -/
theorem read_tab (ct : Vec F S65536 .f32) :
    ((tabM).access (.whole S65536)).read (Elt F) ct = ct := Memref.read_access_whole (Elt F) cc0_scratch0 ct

/-- After `l` levels the five accumulators hold the five vectors' positions. -/
abbrev searchAcc (ct : Vec F S65536 .f32) (u0 u1 u2 u3 u4 : Vec F S16 .f32) (l : ℕ) :
    IVec S16 32 × IVec S16 32 × IVec S16 32 × IVec S16 32 × IVec S16 32 :=
  (coarseV ct u0 l, coarseV ct u1 l, coarseV ct u2 l, coarseV ct u3 l, coarseV ct u4 l)

/-- Every lookup of the search is inside the table. -/
theorem chk_probe (ct : Vec F S65536 .f32) (u : Vec F S16 .f32) (k : Fin k0_t3_loop.trips) :
    ∀ a x, ((![k0_pay13 0#32 1#32 k (coarseV ct u k.val)] : Fin 1 → IVec S16 32) a x).toNat < S65536.size a := by
  rw [probe_eq]
  intro a x
  match a with
  | 0 => exact lt_of_eq_of_lt (probe_lt ct u k x).1 (probe_lt ct u k x).2

/-- What a lane's lookup reads. -/
theorem loadIdx_probe (ct : Vec F S65536 .f32) (u : Vec F S16 .f32) (k : Fin k0_t3_loop.trips) (h) (x : S16.Idx) :
    loadIdx ct ![k0_pay13 0#32 1#32 k (coarseV ct u k.val)] h x = ct (tabIx (coarse ct (u x) k.val + 2 ^ (15 - k.val) - 1)) := by
  show ct (idxAt _ h x) = _
  congr 1
  funext a
  match a with
  | 0 =>
    apply Fin.ext
    show ((k0_pay13 0#32 1#32 k (coarseV ct u k.val)) x).toNat = _
    rw [probe_eq, (probe_lt ct u k x).1]
    have := (probe_lt ct u k x).2
    show _ = min _ _
    omega

set_option maxHeartbeats 1000000 in
/-- One level of the search. -/
theorem search_step (ct : Vec F S65536 .f32) (u0 u1 u2 u3 u4 : Vec F S16 .f32) (t : Fin k0_t2_loop.trips) (k : Fin k0_t3_loop.trips) :
    (tabPts d L ct : sProp 𝕄)
      ⊢ wp frame (wpE (defs₀ (F := F)) 𝒱₀ (V d (cV L) (jV L)) none) Set.univ
          (searchT L 0#32 1#32 t u0 u1 u2 u3 u4 k (searchAcc ct u0 u1 u2 u3 u4 k.val))
          fun acc => iprop(⌜acc = searchAcc ct u0 u1 u2 u3 u4 (k.val + 1)⌝ ∗ tabPts d L ct) := by
  unfold searchT k0_t3_body
  simp only [k0_part1_eq_skeleton]; unfold k0_part1_skel
  rw [tabPts_access]
  iintro H
  simp only [bind_assoc, Prog.bind_lift, Prog.bind_op, Prog.bind_ret, Prog.pure_eq_ret]
  rw [wp_assume_of _ _ _ _ (show k0_chk1 (k0_pay13 0#32 1#32 k (coarseV ct u0 k.val)) from chk_probe ct u0 k)]
  iapply (SparseCore.wp_vectorLoadIdx 𝒱₀ (V d (cV L) (jV L)) none Set.univ (base := tabM) (S := Finset.univ) (q := fullShare) (Finset.subset_univ _)) $$ H; iintro H
  rw [wp_assume_of _ _ _ _ (show k0_chk2 (k0_pay14 0#32 1#32 k (coarseV ct u1 k.val)) from chk_probe ct u1 k)]
  iapply (SparseCore.wp_vectorLoadIdx 𝒱₀ (V d (cV L) (jV L)) none Set.univ (base := tabM) (S := Finset.univ) (q := fullShare) (Finset.subset_univ _)) $$ H; iintro H
  rw [wp_assume_of _ _ _ _ (show k0_chk3 (k0_pay15 0#32 1#32 k (coarseV ct u2 k.val)) from chk_probe ct u2 k)]
  iapply (SparseCore.wp_vectorLoadIdx 𝒱₀ (V d (cV L) (jV L)) none Set.univ (base := tabM) (S := Finset.univ) (q := fullShare) (Finset.subset_univ _)) $$ H; iintro H
  rw [wp_assume_of _ _ _ _ (show k0_chk4 (k0_pay16 0#32 1#32 k (coarseV ct u3 k.val)) from chk_probe ct u3 k)]
  iapply (SparseCore.wp_vectorLoadIdx 𝒱₀ (V d (cV L) (jV L)) none Set.univ (base := tabM) (S := Finset.univ) (q := fullShare) (Finset.subset_univ _)) $$ H; iintro H
  rw [wp_assume_of _ _ _ _ (show k0_chk5 (k0_pay17 0#32 1#32 k (coarseV ct u4 k.val)) from chk_probe ct u4 k)]
  iapply (SparseCore.wp_vectorLoadIdx 𝒱₀ (V d (cV L) (jV L)) none Set.univ (base := tabM) (S := Finset.univ) (q := fullShare) (Finset.subset_univ _)) $$ H; iintro H
  rw [wp_ret]; imodintro
  isplitr
  · ipureintro
    simp only [read_tab]
    refine Prod.ext ?_ (Prod.ext ?_ (Prod.ext ?_ (Prod.ext ?_ ?_)))
    · exact move_eq ct u0 _ k (loadIdx_probe ct u0 k _)
    · exact move_eq ct u1 _ k (loadIdx_probe ct u1 k _)
    · exact move_eq ct u2 _ k (loadIdx_probe ct u2 k _)
    · exact move_eq ct u3 _ k (loadIdx_probe ct u3 k _)
    · exact move_eq ct u4 _ k (loadIdx_probe ct u4 k _)
  · iexact H

/-! ## The count -/

omit [FloatOps F] in
/-- The lookup's view of the fetched blocks is the buffer whole, -/
theorem finePts_access (f : Vec F S800x16 .f32) :
    (finePts d L f : sProp 𝕄) = ((fineM).access (.whole S800x16)).loc (V d (cV L) (jV L)) ↦[Finset.univ]{fullShare} f := rfl
omit [FloatOps F] in
/-- and reads it as it stands. -/
theorem read_fine (f : Vec F S800x16 .f32) :
    ((fineM).access (.whole S800x16)).read (Elt F) f = f := Memref.read_access_whole (Elt F) cc0_scratch3 f

/-- After `k` steps the five accumulators hold the five vectors' counts. -/
abbrev countAcc (f : Vec F S800x16 .f32) (r0 r1 r2 r3 r4 : S16.Idx → ℕ) (u0 u1 u2 u3 u4 : Vec F S16 .f32) (k : ℕ) :
    IVec S16 32 × IVec S16 32 × IVec S16 32 × IVec S16 32 × IVec S16 32 :=
  (cntV f r0 u0 k, cntV f r1 u1 k, cntV f r2 u2 k, cntV f r3 u3 k, cntV f r4 u4 k)

omit [FloatOps F] in
/-- Every lookup of the count is inside the fetched blocks. -/
theorem chk_entry (r : S16.Idx → ℕ) (hr : ∀ x, r x < 800) (k : Fin k0_t5_loop.trips) :
    ∀ a x, ((![lanes r, k0_pay34 k] : Fin 2 → IVec S16 32) a x).toNat < S800x16.size a := by
  rw [col_eq]
  intro a x
  have hk := t5_lt k
  match a with
  | 0 => exact lt_of_eq_of_lt (lanes_toNat r x ((hr x).trans (by norm_num))) (hr x)
  | 1 => exact lt_of_eq_of_lt (lanes_toNat (fun _ => k.val) x (hk.trans (by norm_num))) hk

omit [FloatOps F] in
/-- What a lane's lookup reads. -/
theorem loadIdx_entry (f : Vec F S800x16 .f32) (r : S16.Idx → ℕ) (hr : ∀ x, r x < 800) (k : Fin k0_t5_loop.trips) (h) (x : S16.Idx) :
    loadIdx f ![lanes r, k0_pay34 k] h x = fineCol f (r x) k.val := by
  show f (idxAt _ h x) = f _
  congr 1
  have hk := t5_lt k
  have := hr x
  funext a
  match a with
  | 0 =>
    apply Fin.ext
    show (lanes r x).toNat = min (r x) 799
    rw [lanes_toNat r x (by omega)]; omega
  | 1 =>
    apply Fin.ext
    show (k0_pay34 k x).toNat = k.val % 16
    rw [col_eq, lanes_toNat _ x (by omega)]; omega

set_option maxHeartbeats 1000000 in
/-- One step of the count. -/
theorem count_step (f : Vec F S800x16 .f32) (r0 r1 r2 r3 r4 : S16.Idx → ℕ) (h0 : ∀ x, r0 x < 800) (h1 : ∀ x, r1 x < 800)
    (h2 : ∀ x, r2 x < 800) (h3 : ∀ x, r3 x < 800) (h4 : ∀ x, r4 x < 800) (u0 u1 u2 u3 u4 : Vec F S16 .f32)
    (v39 : IVec S16 32) (t : Fin k0_t4_loop.trips) (v52 v89 c : BitVec 32) (k : Fin k0_t5_loop.trips) :
    (finePts d L f : sProp 𝕄)
      ⊢ wp frame (wpE (defs₀ (F := F)) 𝒱₀ (V d (cV L) (jV L)) none) Set.univ
          (countT L v39 t v52 u0 u1 u2 u3 u4 (lanes r0) (lanes r1) (lanes r2) (lanes r3) v89 c (lanes r4) k
            (countAcc f r0 r1 r2 r3 r4 u0 u1 u2 u3 u4 k.val))
          fun acc => iprop(⌜acc = countAcc f r0 r1 r2 r3 r4 u0 u1 u2 u3 u4 (k.val + 1)⌝ ∗ finePts d L f) := by
  unfold countT k0_t5_body
  rw [finePts_access]
  iintro H
  simp only [bind_assoc, Prog.bind_lift, Prog.bind_op, Prog.bind_ret, Prog.pure_eq_ret]
  rw [wp_assume_of _ _ _ _ (show k0_chk6 (lanes r0) (lanes r1) (lanes r2) (lanes r3) (lanes r4) (k0_pay34 k) from
    ⟨chk_entry r0 h0 k, chk_entry r1 h1 k, chk_entry r2 h2 k, chk_entry r3 h3 k, chk_entry r4 h4 k⟩)]
  iapply (SparseCore.wp_vectorLoadIdx 𝒱₀ (V d (cV L) (jV L)) none Set.univ (base := fineM) (S := Finset.univ) (q := fullShare) (Finset.subset_univ _)) $$ H; iintro H
  iapply (SparseCore.wp_vectorLoadIdx 𝒱₀ (V d (cV L) (jV L)) none Set.univ (base := fineM) (S := Finset.univ) (q := fullShare) (Finset.subset_univ _)) $$ H; iintro H
  iapply (SparseCore.wp_vectorLoadIdx 𝒱₀ (V d (cV L) (jV L)) none Set.univ (base := fineM) (S := Finset.univ) (q := fullShare) (Finset.subset_univ _)) $$ H; iintro H
  iapply (SparseCore.wp_vectorLoadIdx 𝒱₀ (V d (cV L) (jV L)) none Set.univ (base := fineM) (S := Finset.univ) (q := fullShare) (Finset.subset_univ _)) $$ H; iintro H
  iapply (SparseCore.wp_vectorLoadIdx 𝒱₀ (V d (cV L) (jV L)) none Set.univ (base := fineM) (S := Finset.univ) (q := fullShare) (Finset.subset_univ _)) $$ H; iintro H
  rw [wp_ret]; imodintro
  isplitr
  · ipureintro
    simp only [read_fine]
    refine Prod.ext ?_ (Prod.ext ?_ (Prod.ext ?_ (Prod.ext ?_ ?_)))
    · exact tally_eq f r0 u0 _ k (loadIdx_entry f r0 h0 k _)
    · exact tally_eq f r1 u1 _ k (loadIdx_entry f r1 h1 k _)
    · exact tally_eq f r2 u2 _ k (loadIdx_entry f r2 h2 k _)
    · exact tally_eq f r3 u3 _ k (loadIdx_entry f r3 h3 k _)
    · exact tally_eq f r4 u4 _ k (loadIdx_entry f r4 h4 k _)
  · iexact H

end Cert.Proof.Run

end
-- ==== Proof.Blocks.lean ====
/-
  The first pass over a chunk: for each of its 800 queries the block it falls in, eighty queries to a trip.
-/
module

public import proofs.«01_k».proof.Proof.Lookups

@[expose] public section

noncomputable section

namespace Cert.Proof.Run

open Cert.KernelIdeal Cert.KernelIdeal.Gen Cert.Proof.Search

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Tactic

variable {F : FTy → Type} [FloatOps F]

local notation "𝕄" => MT nD τ sig (HIx 1) (Elt F) ℕ UU ℕ

variable (d : Dev nD) (L : grid0.Coords)

/-- The chunk's queries in the tile's memory. -/
abbrev quPts (u : Vec F S800 .f32) : sProp 𝕄 := (quM).view.loc (V d (cV L) (jV L)) ↦{fullShare} u
/-- The chunk's block numbers in the tile's memory. -/
abbrev blkPts (g : Vec F S800 .i32) : sProp 𝕄 := (blkM).view.loc (V d (cV L) (jV L)) ↦{fullShare} g

/-- The sixteen queries from `o` on. -/
abbrev win (o : Fin 1 → ℕ) (h : ∀ a, o a + S16.size a ≤ S800.size a) (u : Vec F S800 .f32) : Vec F S16 .f32 :=
  View.readAt (Elt F) quM.view (Rect.unit (s := S800) o S16.size h).toLoadRect u

/-- The block of each of the chunk's queries, as it is stored. -/
abbrev blkOf (ct : Vec F S65536 .f32) (u : Vec F S800 .f32) : Vec F S800 .i32 := fun q => BitVec.ofNat 32 (blk ct (u q))

/-- The search takes sixteen steps. -/
theorem trips_t3 : Scf.trips k0_t3_loop.lb k0_t3_loop.ub k0_t3_loop.st = 16 := by decide

set_option maxHeartbeats 4000000 in
/-- One trip of the first pass. -/
theorem blocks_step (ct : Vec F S65536 .f32) (u : Vec F S800 .f32) (g : Vec F S800 .i32) (t : Fin k0_t2_loop.trips)
    (hg : Done (blkOf ct u) (80 * t.val) ((blkM).view.read (Elt F) g)) :
    iprop(tabPts d L ct ∗ quPts d L u ∗ blkPts d L g)
      ⊢ wp frame (wpE (defs₀ (F := F)) 𝒱₀ (V d (cV L) (jV L)) none) Set.univ
          (blocksT L t ⟨⟩)
          fun _ => iprop(tabPts d L ct ∗ quPts d L u ∗ ∃ g', ⌜Done (blkOf ct u) (80 * (t.val + 1)) ((blkM).view.read (Elt F) g')⌝ ∗ blkPts d L g') := by
  unfold blocksT k0_t2_body
  simp only [k0_part2_eq_skeleton]; unfold k0_part2_skel
  iintro ⟨Ht, Hu, Hb⟩
  sl_exec
  simp only [bind_assoc]
  sl_for (fun l acc => iprop(⌜acc = searchAcc ct
      (win (k0_off2 t 0#32) (k0_off2_inb t 0) u)
      (win (k0_off2 t 1#32) (k0_off2_inb t 1) u)
      (win (k0_off2 t 2#32) (k0_off2_inb t 2) u)
      (win (k0_off2 t 3#32) (k0_off2_inb t 3) u)
      (win (k0_off2 t 4#32) (k0_off2_inb t 4) u) l⌝ ∗ tabPts d L ct)) $$ [Ht]
  case region =>
    intro k acc
    iintro ⟨%h, Ht⟩
    subst h
    iapply (search_step d L ct _ _ _ _ _ t k)
    iexact Ht
  · isplitr
    · ipureintro; rfl
    · iexact Ht
  iintro %acc ⟨%h, Ht⟩
  obtain ⟨a0, a1, a2, a3, a4⟩ := acc
  rw [trips_t3] at h
  obtain ⟨h0, h1, h2, h3, h4⟩ : a0 = _ ∧ a1 = _ ∧ a2 = _ ∧ a3 = _ ∧ a4 = _ := by simpa only [Prod.mk.injEq] using h
  clear h
  sl_exec
  rw [wp_ret]; imodintro
  isplitl [Ht]; · iexact Ht
  isplitl [Hu]; · iexact Hu
  iexists _
  isplitr
  rotate_left
  · iexact Hb
  ipureintro
  subst h0 h1 h2 h3 h4
  rw [show 80 * (t.val + 1) = 80 * t.val + 80 by ring]
  refine done_writes (blkM).view g _ (blkOf ct u) (80 * t.val) 80 ?_ ?_ hg
  · intro p hp x
    simp only [List.mem_cons, List.not_mem_nil, or_false] at hp
    obtain rfl | rfl | rfl | rfl | rfl := hp <;> exact blk_lane ct _ x
  · intro q hq1 hq2
    have e := fun r : Fin 5 => k0_off2_eq t r
    have c : (q 0).val < 80 * t.val + 16 ∨ 80 * t.val + 16 ≤ (q 0).val ∧ (q 0).val < 80 * t.val + 32 ∨ 80 * t.val + 32 ≤ (q 0).val ∧ (q 0).val < 80 * t.val + 48
        ∨ 80 * t.val + 48 ≤ (q 0).val ∧ (q 0).val < 80 * t.val + 64 ∨ 80 * t.val + 64 ≤ (q 0).val := by omega
    simp only [List.mem_cons, List.not_mem_nil, or_false, exists_eq_or_imp, exists_eq_left]
    rcases c with c | c | c | c | c
    · exact .inr (.inr (.inr (.inr (mem_stretch (e 0) hq1 c))))
    · exact .inr (.inr (.inr (.inl (mem_stretch (e 1) c.1 c.2))))
    · exact .inr (.inr (.inl (mem_stretch (e 2) c.1 c.2)))
    · exact .inr (.inl (mem_stretch (e 3) c.1 c.2))
    · exact .inl (mem_stretch (e 4) c hq2)

end Cert.Proof.Run

end
-- ==== Proof.Draws.lean ====
/-
  The second pass over a chunk: for each of its 800 queries the row it draws, from its block's number and the count
  within the fetched block, eighty queries to a trip.
-/
module

public import proofs.«01_k».proof.Proof.Blocks

@[expose] public section

noncomputable section

namespace Cert.Proof.Run

open Cert.KernelIdeal Cert.KernelIdeal.Gen Cert.Proof.Search

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Tactic

variable {F : FTy → Type} [FloatOps F]

local notation "𝕄" => MT nD τ sig (HIx 1) (Elt F) ℕ UU ℕ

variable (d : Dev nD) (L : grid0.Coords)

/-- The chunk's draws in the tile's memory. -/
abbrev posPts (g : Vec F S800 .i32) : sProp 𝕄 := (posM).view.loc (V d (cV L) (jV L)) ↦{fullShare} g

/-- The row each of the chunk's queries draws, as it is stored, from the block fetched for it. -/
abbrev drawOf (ct : Vec F S65536 .f32) (u : Vec F S800 .f32) (f : Vec F S800x16 .f32) : Vec F S800 .i32 :=
  fun q => BitVec.ofNat 32 (min (blk ct (u q) * 16 + cnt (fineCol f (q 0).val) (u q) 16) 999999)

/-- The queries of the chunk that vector `r` of trip `t` holds. -/
abbrev qOf (t r : ℕ) : S16.Idx → ℕ := fun x => 80 * t + 16 * r + (x 0).val

omit [FloatOps F] in
/-- A trip's number is below ten. -/
theorem t4_lt (t : Fin k0_t4_loop.trips) : t.val < 10 := lt_of_lt_of_le t.isLt k0_t4_abs.2.1

omit [FloatOps F] in
/-- A trip's queries lie in the chunk. -/
theorem qOf_lt (t : Fin k0_t4_loop.trips) (r : Fin 5) (x : S16.Idx) : qOf t.val r.val x < 800 := by
  have h1 := t4_lt t
  have h2 : (x 0).val < 16 := (x 0).isLt
  have h3 := r.isLt
  show 80 * t.val + 16 * r.val + (x 0).val < 800
  omega

omit [FloatOps F] in
/-- The words `16 * (5 * t + r)` plus the lane number are the queries' numbers. -/
theorem rows_eq (v39 : IVec S16 32) (hv : ∀ x, v39 x = BitVec.ofNat 32 (x 0).val) (t : Fin k0_t4_loop.trips) (r : Fin 5) :
    (addi (broadcast S16 ((Scf.iv 0#32 1#32 t * 5#32 + BitVec.ofNat 32 r.val) * 16#32)) v39 : IVec S16 32) = lanes (qOf t.val r.val) := by
  funext x
  show (((0#32 + BitVec.ofNat 32 t.val * 1#32) * 5#32 + BitVec.ofNat 32 r.val) * 16#32) + v39 x = BitVec.ofNat 32 (80 * t.val + 16 * r.val + (x 0).val)
  rw [hv]
  have h1 := t4_lt t
  have h2 : (x 0).val < 16 := (x 0).isLt
  have h3 := r.isLt
  apply BitVec.eq_of_toNat_eq
  simp only [BitVec.toNat_add, BitVec.toNat_mul, BitVec.toNat_ofNat]
  omega

omit [FloatOps F] in
/-- Where a stretch that starts at `n` puts its lane `x`. -/
theorem emb_stretch {o : Fin 1 → ℕ} {h : ∀ a, o a + S16.size a ≤ S800.size a} {n : ℕ} (ho : o = ![n]) (x : S16.Idx) :
    (((Rect.unit (s := S800) o S16.size h).emb x) 0).val = n + (x 0).val := by
  subst ho
  show n + 1 * (x 0).val = n + (x 0).val
  omega

/-- The row stored for a lane whose count is over. -/
theorem draw_lane (ct : Vec F S65536 .f32) (u : Vec F S800 .f32) (f : Vec F S800x16 .f32) {o o' : Fin 1 → ℕ}
    {h : ∀ a, o a + S16.size a ≤ S800.size a} {h' : ∀ a, o' a + S16.size a ≤ S800.size a} {t : Fin k0_t4_loop.trips} {r : Fin 5}
    (ho : o = ![80 * t.val + 16 * r.val]) (ho' : o' = ![80 * t.val + 16 * r.val]) (x : S16.Idx) :
    k0_pay40 (F := F) (cntV f (qOf t.val r.val) (win o h u) 16)
        (View.readAt (Elt F) (blkM).view (Rect.unit (s := S800) o' S16.size h').toLoadRect (blkOf ct u)) x
      = drawOf ct u f ((Rect.unit (s := S800) o' S16.size h').emb x) := by
  have e : o = o' := ho.trans ho'.symm
  subst e
  have eq : qOf t.val r.val x = (((Rect.unit (s := S800) o S16.size h).emb x) 0).val := (emb_stretch ho x).symm
  show IntOp.minsi (BitVec.ofNat 32 (blk ct (u ((Rect.unit (s := S800) o S16.size h).emb x))) * 16#32
      + BitVec.ofNat 32 (cnt (fineCol f (qOf t.val r.val x)) (u ((Rect.unit (s := S800) o S16.size h).emb x)) 16)) (BitVec.ofNat 32 999999) = BitVec.ofNat 32 _
  have h1 := blk_le ct (u ((Rect.unit (s := S800) o S16.size h).emb x))
  have h2 := cnt_le (fineCol f (qOf t.val r.val x)) (u ((Rect.unit (s := S800) o S16.size h).emb x)) 16
  rw [show (16#32) = BitVec.ofNat 32 16 from rfl, ← BitVec.ofNat_mul, ← BitVec.ofNat_add, minsi_ofNat (by omega) (by omega), ← eq]

/-- The count takes sixteen steps. -/
theorem trips_t5 : Scf.trips k0_t5_loop.lb k0_t5_loop.ub k0_t5_loop.st = 16 := by decide

set_option maxHeartbeats 4000000 in
/-- One trip of the second pass. -/
theorem draws_step (ct : Vec F S65536 .f32) (u : Vec F S800 .f32) (f : Vec F S800x16 .f32) (g : Vec F S800 .i32) (v39 : IVec S16 32)
    (hv : ∀ x, v39 x = BitVec.ofNat 32 (x 0).val) (t : Fin k0_t4_loop.trips)
    (hg : Done (drawOf ct u f) (80 * t.val) ((posM).view.read (Elt F) g)) :
    iprop(quPts d L u ∗ blkPts d L (blkOf ct u) ∗ finePts d L f ∗ posPts d L g)
      ⊢ wp frame (wpE (defs₀ (F := F)) 𝒱₀ (V d (cV L) (jV L)) none) Set.univ
          (drawsT L v39 t ⟨⟩)
          fun _ => iprop(quPts d L u ∗ blkPts d L (blkOf ct u) ∗ finePts d L f
            ∗ ∃ g', ⌜Done (drawOf ct u f) (80 * (t.val + 1)) ((posM).view.read (Elt F) g')⌝ ∗ posPts d L g') := by
  unfold drawsT k0_t4_body
  have e0 : k0_pay28 v39 0#32 1#32 t = lanes (qOf t.val 0) := rows_eq v39 hv t 0
  have e1 : k0_pay29 v39 0#32 1#32 t = lanes (qOf t.val 1) := rows_eq v39 hv t 1
  have e2 : k0_pay30 v39 0#32 1#32 t = lanes (qOf t.val 2) := rows_eq v39 hv t 2
  have e3 : k0_pay31 v39 0#32 1#32 t = lanes (qOf t.val 3) := rows_eq v39 hv t 3
  have e4 : k0_pay32 v39 (Scalar.addi (Scalar.muli (Scf.iv 0#32 1#32 t) 5#32) 4#32) 16#32 = lanes (qOf t.val 4) := rows_eq v39 hv t 4
  simp only [k0_part3_eq_skeleton, k0_part4_eq_skeleton]; unfold k0_part3_skel k0_part4_skel
  iintro ⟨Hu, Hb, Hf, Hp⟩
  sl_exec
  sl_unfold_run_names
  simp only [bind_assoc, e0, e1, e2, e3, e4]
  sl_for (fun l acc => iprop(⌜acc = countAcc f (qOf t.val 0) (qOf t.val 1) (qOf t.val 2) (qOf t.val 3) (qOf t.val 4)
      (win (k0_off3 t 0#32) (k0_off3_inb t 0) u) (win (k0_off3 t 1#32) (k0_off3_inb t 1) u) (win (k0_off3 t 2#32) (k0_off3_inb t 2) u)
      (win (k0_off3 t 3#32) (k0_off3_inb t 3) u) (win (k0_off3 t 4#32) (k0_off3_inb t 4) u) l⌝ ∗ finePts d L f)) $$ [Hf]
  case region =>
    intro k acc
    iintro ⟨%h, Hf⟩
    subst h
    iapply (count_step d L f _ _ _ _ _ (qOf_lt t 0) (qOf_lt t 1) (qOf_lt t 2) (qOf_lt t 3) (qOf_lt t 4) _ _ _ _ _ v39 t _ _ _ k)
    iexact Hf
  · isplitr
    · ipureintro; rfl
    · iexact Hf
  iintro %acc ⟨%h, Hf⟩
  obtain ⟨a0, a1, a2, a3, a4⟩ := acc
  rw [trips_t5] at h
  obtain ⟨h0, h1, h2, h3, h4⟩ : a0 = _ ∧ a1 = _ ∧ a2 = _ ∧ a3 = _ ∧ a4 = _ := by simpa only [Prod.mk.injEq] using h
  clear h
  sl_exec
  rw [wp_ret]; imodintro
  isplitl [Hu]; · iexact Hu
  isplitl [Hb]; · iexact Hb
  isplitl [Hf]; · iexact Hf
  iexists _
  isplitr
  rotate_left
  · iexact Hp
  ipureintro
  subst h0 h1 h2 h3 h4
  rw [show 80 * (t.val + 1) = 80 * t.val + 80 by ring]
  have a := fun r : Fin 5 => k0_off3_eq t r
  have e := fun r : Fin 5 => k0_off4_eq t r
  refine done_writes (posM).view g _ (drawOf ct u f) (80 * t.val) 80 ?_ ?_ hg
  · intro p hp x
    simp only [List.mem_cons, List.not_mem_nil, or_false] at hp
    obtain rfl | rfl | rfl | rfl | rfl := hp
    · exact draw_lane ct u f (a 4) (e 4) x
    · exact draw_lane ct u f (a 3) (e 3) x
    · exact draw_lane ct u f (a 2) (e 2) x
    · exact draw_lane ct u f (a 1) (e 1) x
    · exact draw_lane ct u f (a 0) (e 0) x
  · intro q hq1 hq2
    have c : (q 0).val < 80 * t.val + 16 ∨ 80 * t.val + 16 ≤ (q 0).val ∧ (q 0).val < 80 * t.val + 32 ∨ 80 * t.val + 32 ≤ (q 0).val ∧ (q 0).val < 80 * t.val + 48
        ∨ 80 * t.val + 48 ≤ (q 0).val ∧ (q 0).val < 80 * t.val + 64 ∨ 80 * t.val + 64 ≤ (q 0).val := by omega
    simp only [List.mem_cons, List.not_mem_nil, or_false, exists_eq_or_imp, exists_eq_left]
    rcases c with c | c | c | c | c
    · exact .inr (.inr (.inr (.inr (mem_stretch (e 0) hq1 c))))
    · exact .inr (.inr (.inr (.inl (mem_stretch (e 1) c.1 c.2))))
    · exact .inr (.inr (.inl (mem_stretch (e 2) c.1 c.2)))
    · exact .inr (.inl (mem_stretch (e 3) c.1 c.2))
    · exact .inl (mem_stretch (e 4) c hq2)

end Cert.Proof.Run

end
-- ==== Proof.Chunk.lean ====
/-
  One chunk of 800 queries: the queries fetched, their blocks found, the blocks' rows of the fine table gathered, the draws
  found, the data's rows gathered by them and copied to the chunk's rows of the result.
-/
module

public import proofs.«01_k».proof.Proof.Draws

@[expose] public section

noncomputable section

namespace Cert.Proof.Run

open Cert.KernelIdeal Cert.KernelIdeal.Gen Cert.Proof.Search

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Tactic

variable {F : FTy → Type} [FloatOps F]

local notation "𝕄" => MT nD τ sig (HIx 1) (Elt F) ℕ UU ℕ

variable (d : Dev nD) (L : grid0.Coords)

/-- The rows taken, in the tile's memory. -/
abbrev rowsPts (r : Vec F S800x16 .f32) : sProp 𝕄 := (rowsM).view.loc (V d (cV L) (jV L)) ↦{fullShare} r

/-- The chunk's queries and its rows of the result, as the trip names them. -/
abbrev uSl (t : Fin (k0_t1_loop L).trips) : Memref sig .scVector .hbm S800 .f32 :=
  uM.slice (Rect.unit (s := S1000000) (k0_off1 L t) S800.size (k0_off1_inb L t)) (fun _ => rfl)
/-- The chunk's rows of the result. -/
abbrev oSl (t : Fin (k0_t1_loop L).trips) : Memref sig .scVector .hbm S800x16 .f32 :=
  oM.slice (Rect.unit (s := S1000000x16) (k0_off5 L t) S800x16.size (k0_off5_inb L t)) (fun _ => rfl)

/-- The fine table and the data, as the gathers name them. -/
abbrev cdA : Memref sig .scVector .hbm S62500x16 .f32 :=
  cdM.slice (Rect.unit (s := S62500x16) ![0, 0] S62500x16.size inb_S62500x16_S62500x16_0_0) (fun _ => rfl)
/-- The data as the second gather reads it. -/
abbrev xA : Memref sig .scVector .hbm S1000000x16 .f32 :=
  xM.slice (Rect.unit (s := S1000000x16) ![0, 0] S1000000x16.size inb_S1000000x16_S1000000x16_0_0) (fun _ => rfl)

/-- The chunk's queries. -/
abbrev qs (uv : Vec F S1000000 .f32) (t : Fin (k0_t1_loop L).trips) : Vec F S800 .f32 := (uSl L t).view.read (Elt F) uv

/-- The data's row that each query draws. -/
def picks (ct : Vec F S65536 .f32) (cd : Vec F S62500x16 .f32) (uv : Vec F S1000000 .f32) (xv : Vec F S1000000x16 .f32) :
    Vec F S1000000x16 .f32 :=
  fun i => xv (rowIx (pos ct cd (uv (ix1 (i 0)))) (i 1))

/-- The loop over a chunk's blocks makes ten trips, -/
theorem trips_t2 : Scf.trips k0_t2_loop.lb k0_t2_loop.ub k0_t2_loop.st = 10 := by decide
/-- and so does the loop over its draws. -/
theorem trips_t4 : Scf.trips k0_t4_loop.lb k0_t4_loop.ub k0_t4_loop.st = 10 := by decide

/-- At the start nothing has to be done, -/
theorem done_zero {α : Type} (G g : S800.Idx → α) : Done G (80 * 0) g := fun _ h => absurd h (Nat.not_lt_zero _)
/-- and after ten trips of eighty entries the whole chunk is. -/
theorem done_all {α : Type} {G g : S800.Idx → α} (h : Done G (80 * 10) g) : g = G := funext fun q => h q (q 0).isLt

omit [FloatOps F] in
/-- The rows of a gather credit its semaphore what the whole buffer does. -/
theorem credit_fine : ∑ j, ((fineM).slice (S800x16.rowRect (gathers_S62500x16_S800x16).axis' j) (S800x16.stride_rowRect (gathers_S62500x16_S800x16).axis' j)).view.dmaCredit
    = (fineM).view.dmaCredit := SparseCore.sum_rowCredit_eq_dmaCredit fineM _ fun _ => rfl
omit [FloatOps F] in
/-- The second gather's rows carry as many bytes as its wait expects. -/
theorem credit_rows : ∑ j, ((rowsM).slice (S800x16.rowRect (gathers_S1000000x16_S800x16).axis' j) (S800x16.stride_rowRect (gathers_S1000000x16_S800x16).axis' j)).view.dmaCredit
    = (rowsM).view.dmaCredit := SparseCore.sum_rowCredit_eq_dmaCredit rowsM _ fun _ => rfl

/-- A block number as a natural number is the block found, -/
theorem blkOf_toNat (ct : Vec F S65536 .f32) (u : Vec F S800 .f32) (j : S800.Idx) : (blkOf ct u j).toNat = blk ct (u j) := by
  have h := blk_le ct (u j)
  show (BitVec.ofNat 32 (blk ct (u j))).toNat = _
  rw [BitVec.toNat_ofNat]; omega
/-- so it names a row of the fine table. -/
theorem blkOf_lt (ct : Vec F S65536 .f32) (u : Vec F S800 .f32) (j : S800.Idx) : (blkOf ct u j).toNat < 62500 := by
  have h := blk_le ct (u j)
  rw [blkOf_toNat]; omega

omit [FloatOps F] in
/-- What a gather of rows of sixteen delivers: row by row the row its list names. -/
theorem gather_row {N : ℕ} (hg : (⟨2, ![N, 16]⟩ : Shape).Gathers 0 S800x16) (g : (⟨2, ![N, 16]⟩ : Shape).Idx → F .f32) (w : S800.Idx → Elt F .i32)
    (hn : S800.numel = S800x16.size hg.axis') (hin : ∀ x, (w x).toNat < (⟨2, ![N, 16]⟩ : Shape).size hg.axis) (i : S800x16.Idx) :
    SparseCore.gatherPayload (F := F) (e := .f32) hg g (SparseCore.rows w hn hin) i
      = g (ix2 (⟨(w (ix1 (i 0))).toNat, hin _⟩ : Fin N) (i 1)) := by
  refine congrArg g (funext fun b => Fin.ext ?_)
  match b with
  | 0 =>
    refine (congrArg Fin.val (hg.idx_axis _ i)).trans ?_
    show (w (S800.rowMajor.symm _)).toNat = (w (ix1 (i 0))).toNat
    congr 2
    exact (S800.rowMajor.symm_apply_eq).mpr (Fin.ext (Shape.rowMajor_val_one (ix1 (i 0) : S800.Idx)).symm)
  | 1 => exact hg.idx_of_ne _ i 1 Nat.one_ne_zero

omit [FloatOps F] in
/-- The first gather reads the fine table as it stands, -/
theorem read_cdA (cd : Vec F S62500x16 .f32) : (cdA).view.read (Elt F) cd = cd := by
  funext i
  refine congrArg cd (funext fun b => Fin.ext ?_)
  show (![0, 0] : Fin 2 → ℕ) b + 1 * (i b).val = (i b).val
  match b with
  | 0 => simp
  | 1 => simp
omit [FloatOps F] in
/-- and the second the data as it stands. -/
theorem read_xA (xv : Vec F S1000000x16 .f32) : (xA).view.read (Elt F) xv = xv := by
  funext i
  refine congrArg xv (funext fun b => Fin.ext ?_)
  show (![0, 0] : Fin 2 → ℕ) b + 1 * (i b).val = (i b).val
  match b with
  | 0 => simp
  | 1 => simp

omit [FloatOps F] in
/-- A copy over all of the queries' buffer leaves what was copied, -/
theorem write_quM (w v : Vec F S800 .f32) : View.write (Elt F) quM.view w v Finset.univ = v := by
  exact View.write_whole_univ _ _ _

omit [FloatOps F] in
/-- likewise over the fetched blocks', -/
theorem write_fineM (w v : Vec F S800x16 .f32) : View.write (Elt F) fineM.view w v Finset.univ = v := View.write_whole_univ _ _ _
omit [FloatOps F] in
/-- and over the taken rows'. -/
theorem write_rowsM (w v : Vec F S800x16 .f32) : View.write (Elt F) rowsM.view w v Finset.univ = v := View.write_whole_univ _ _ _

/-- The fine table's rows that the first gather fetches, -/
def fetched (ct : Vec F S65536 .f32) (cd : Vec F S62500x16 .f32) (u : Vec F S800 .f32) : Vec F S800x16 .f32 :=
  fun i => cd (blkIx (blk ct (u (ix1 (i 0)))) (i 1).val)
/-- and the data's rows that the second takes. -/
def taken (ct : Vec F S65536 .f32) (cd : Vec F S62500x16 .f32) (xv : Vec F S1000000x16 .f32) (u : Vec F S800 .f32) : Vec F S800x16 .f32 :=
  fun i => xv (rowIx (pos ct cd (u (ix1 (i 0)))) (i 1))

/-- The first gather, at the block numbers found, fetches those blocks. -/
theorem fetched_eq (ct : Vec F S65536 .f32) (cd : Vec F S62500x16 .f32) (u : Vec F S800 .f32) (w : S800.Idx → Elt F .i32)
    (hn : S800.numel = S800x16.size (gathers_S62500x16_S800x16).axis') (hin : ∀ x, (w x).toNat < S62500x16.size (gathers_S62500x16_S800x16).axis) (hw : w = blkOf ct u) :
    SparseCore.gatherPayload (F := F) (e := .f32) gathers_S62500x16_S800x16 ((cdA).view.read (Elt F) cd) (SparseCore.rows w hn hin) = fetched ct cd u := by
  subst hw
  funext i
  rw [read_cdA]
  refine (gather_row _ _ _ _ _ _).trans ?_
  have h1 := blk_le ct (u (ix1 (i 0)))
  have h2 : (i 1).val < 16 := (i 1).isLt
  refine congrArg cd (congrArg₂ ix2 (Fin.ext ?_) (Fin.ext ?_))
  · show (blkOf ct u (ix1 (i 0))).toNat = min _ 62499
    rw [blkOf_toNat]; omega
  · show (i 1).val = (i 1).val % 16
    omega

/-- A fetched block, entry by entry, is the query's block of the fine table. -/
theorem fineCol_fetched (ct : Vec F S65536 .f32) (cd : Vec F S62500x16 .f32) (u : Vec F S800 .f32) (q : S800.Idx) :
    fineCol (fetched ct cd u) (q 0).val = fun k => cd (blkIx (blk ct (u q)) k) := by
  funext k
  have h : (q 0).val < 800 := (q 0).isLt
  have e : (ix1 (⟨min (q 0).val 799, by omega⟩ : Fin 800) : S800.Idx) = q := by
    funext a
    match a with
    | 0 => exact Fin.ext (show min (q 0).val 799 = (q 0).val by omega)
  show cd (blkIx (blk ct (u (ix1 (⟨min (q 0).val 799, _⟩ : Fin 800)))) (k % 16)) = cd (blkIx (blk ct (u q)) k)
  rw [e]
  refine congrArg cd (congrArg₂ ix2 rfl (Fin.ext ?_))
  show k % 16 % 16 = k % 16
  omega

/-- A draw as a natural number is the query's row. -/
theorem drawOf_toNat (ct : Vec F S65536 .f32) (cd : Vec F S62500x16 .f32) (u : Vec F S800 .f32) (j : S800.Idx) :
    (drawOf ct u (fetched ct cd u) j).toNat = pos ct cd (u j) := by
  have h := pos_le ct cd (u j)
  show (BitVec.ofNat 32 (min (blk ct (u j) * 16 + cnt (fineCol (fetched ct cd u) (j 0).val) (u j) 16) 999999)).toNat = _
  rw [fineCol_fetched]
  show (BitVec.ofNat 32 (pos ct cd (u j))).toNat = _
  rw [BitVec.toNat_ofNat]; omega

/-- The second gather, at the draws, takes those rows. -/
theorem taken_eq (ct : Vec F S65536 .f32) (cd : Vec F S62500x16 .f32) (xv : Vec F S1000000x16 .f32) (u : Vec F S800 .f32) (w : S800.Idx → Elt F .i32)
    (hn : S800.numel = S800x16.size (gathers_S1000000x16_S800x16).axis') (hin : ∀ x, (w x).toNat < S1000000x16.size (gathers_S1000000x16_S800x16).axis) (hw : w = drawOf ct u (fetched ct cd u)) :
    SparseCore.gatherPayload (F := F) (e := .f32) gathers_S1000000x16_S800x16 ((xA).view.read (Elt F) xv) (SparseCore.rows w hn hin) = taken ct cd xv u := by
  subst hw
  funext i
  rw [read_xA]
  refine (gather_row _ _ _ _ _ _).trans ?_
  have h1 := pos_le ct cd (u (ix1 (i 0)))
  refine congrArg xv (congrArg₂ ix2 (Fin.ext ?_) rfl)
  show (drawOf ct u (fetched ct cd u) (ix1 (i 0))).toNat = min _ 999999
  rw [drawOf_toNat]; omega

/-- A draw names a row of the data. -/
theorem drawOf_lt (ct : Vec F S65536 .f32) (u : Vec F S800 .f32) (f : Vec F S800x16 .f32) (j : S800.Idx) : (drawOf ct u f j).toNat < 1000000 := by
  show (BitVec.ofNat 32 (min _ 999999)).toNat < 1000000
  rw [BitVec.toNat_ofNat]; omega

/-- The chunk's rows of the result, once the rows taken are copied there. -/
theorem landed (t : Fin (k0_t1_loop L).trips) (f : Vec F S1000000x16 .f32) (ct : Vec F S65536 .f32) (cd : Vec F S62500x16 .f32)
    (uv : Vec F S1000000 .f32) (xv : Vec F S1000000x16 .f32) (w : Vec F S800x16 .f32) (hw : w = taken ct cd xv (qs L uv t)) :
    ∀ i ∈ (oSl L t).view.set, (oSl L t).view.writes (Elt F) f [⟨Rect.whole S800x16, w⟩] i = picks ct cd uv xv i := by
  intro i hi
  subst hw
  obtain ⟨x, -, rfl⟩ := Finset.mem_map.1 hi
  have h := View.read_writes_cons_emb (oSl L t).view f (Rect.whole S800x16) (taken ct cd xv (qs L uv t)) [] x
  have hx : (Rect.whole S800x16).emb x = x := funext fun a => Fin.ext (by show 0 + 1 * (x a).val = (x a).val; omega)
  rw [hx] at h
  refine h.trans ?_
  have eu : (uSl L t).view.emb (ix1 (x 0)) = ix1 ((oSl L t).view.emb x 0) := by
    funext a
    match a with
    | 0 => rfl
  show xv (rowIx (pos ct cd (uv ((uSl L t).view.emb (ix1 (x 0))))) (x 1)) = xv (rowIx (pos ct cd (uv (ix1 ((oSl L t).view.emb x 0)))) ((oSl L t).view.emb x 1))
  rw [eu]
  refine congrArg xv (congrArg (rowIx _) (Fin.ext ?_))
  show (x 1).val = 0 + 1 * (x 1).val
  omega

set_option maxHeartbeats 4000000 in
/-- One chunk: from the tables and the chunk's rows of the result in any state, the body ends with the drawn rows there, the tables and the semaphores as they were. -/
theorem chunk_step (ct : Vec F S65536 .f32) (cd : Vec F S62500x16 .f32) (uv : Vec F S1000000 .f32) (xv : Vec F S1000000x16 .f32)
    (q : PosShare TreeShare) (v39 : IVec S16 32) (hv : ∀ x, v39 x = BitVec.ofNat 32 (x 0).val) (t : Fin (k0_t1_loop L).trips)
    (f : Vec F S1000000x16 .f32) (fu : Vec F S800 .f32) (fb : Vec F S800 .i32) (ff : Vec F S800x16 .f32) (fp : Vec F S800 .i32)
    (fr : Vec F S800x16 .f32) (O : CellTallies nD τ sig (HIx 1)) (W : Waits sig (HIx 1)) :
    iprop(Transfers.MayWaits (V d (cV L) (jV L)) (default : HIx 1) O
        ∗ ((cdA).view.loc (V d (cV L) (jV L)) ↦{q} cd) ∗ ((uM).view.loc (V d (cV L) (jV L)) ↦{q} uv)
        ∗ ((xA).view.loc (V d (cV L) (jV L)) ↦{q} xv) ∗ ((oSl L t).view.loc (V d (cV L) (jV L)) ↦[(oSl L t).view.set]{fullShare} f)
        ∗ tabPts d L ct ∗ quPts d L fu ∗ blkPts d L fb ∗ finePts d L ff ∗ posPts d L fp ∗ rowsPts d L fr
        ∗ semVal (V d (cV L) (jV L), SemLoc.dma cc0_scratch6.sem) 0 ∗ semVal (V d (cV L) (jV L), SemLoc.dma cc0_scoped1.sem) 0
        ∗ semVal (V d (cV L) (jV L), SemLoc.dma cc0_scoped2.sem) 0 ∗ owes (V d (cV L) (jV L)) O W)
      ⊢ wp frame (wpE (defs₀ (F := F)) 𝒱₀ (V d (cV L) (jV L)) none) Set.univ (chunkT L v39 t ⟨⟩) fun _ =>
          iprop(((cdA).view.loc (V d (cV L) (jV L)) ↦{q} cd) ∗ ((uM).view.loc (V d (cV L) (jV L)) ↦{q} uv)
          ∗ ((xA).view.loc (V d (cV L) (jV L)) ↦{q} xv) ∗ ((oSl L t).view.loc (V d (cV L) (jV L)) ↦[(oSl L t).view.set]{fullShare} picks ct cd uv xv)
          ∗ tabPts d L ct ∗ (∃ w, quPts d L w) ∗ (∃ w, blkPts d L w) ∗ (∃ w, finePts d L w) ∗ (∃ w, posPts d L w) ∗ (∃ w, rowsPts d L w)
          ∗ semVal (V d (cV L) (jV L), SemLoc.dma cc0_scratch6.sem) 0 ∗ semVal (V d (cV L) (jV L), SemLoc.dma cc0_scoped1.sem) 0
          ∗ semVal (V d (cV L) (jV L), SemLoc.dma cc0_scoped2.sem) 0
          ∗ ∃ W', ⌜∀ p ∈ W', p ∈ W ∨ p.2 = none⌝ ∗ owes (V d (cV L) (jV L)) O W') := by
  unfold chunkT k0_t1_body
  iintro ⟨#Hmw, Hcd, Hu, Hx, Ho, Htab, Hqu, Hblk, Hfine, Hpos, Hrows, HsG, HsU, HsO, HO⟩
  sl_exec
  ihave Hq := (Entails.of_eq (show ((quM).view.loc (V d (cV L) (jV L)) ↦{fullShare} View.write (Elt F) quM.view fu (chunk_step.sl.dma0 L uv t) Finset.univ : sProp 𝕄)
      = quPts d L (qs L uv t) by rw [show View.write (Elt F) quM.view fu (chunk_step.sl.dma0 L uv t) Finset.univ = qs L uv t from write_quM _ _])) $$ Hqu
  simp only [bind_assoc]
  sl_for (fun n _ => iprop(tabPts d L ct ∗ quPts d L (qs L uv t) ∗ ∃ g, ⌜Done (blkOf ct (qs L uv t)) (80 * n) ((blkM).view.read (Elt F) g)⌝ ∗ blkPts d L g)) $$ [Htab Hq Hblk]
  case region =>
    intro k _
    iintro ⟨Ht, Hq, %g, %hg, Hb⟩
    iapply (blocks_step d L ct (qs L uv t) g k hg)
    isplitl [Ht]; · iexact Ht
    isplitl [Hq]; · iexact Hq
    iexact Hb
  · isplitl [Htab]; · iexact Htab
    isplitl [Hq]; · iexact Hq
    iexists _; isplitr
    rotate_left
    · iexact Hblk
    ipureintro; exact done_zero _ _
  iintro %_ ⟨Ht, Hq, %g, %hg, Hb⟩
  rw [trips_t2] at hg
  have hgb := done_all hg
  have hin : ∀ j, ((blkM).view.read (Elt F) g j).toNat < S62500x16.size (gathers_S62500x16_S800x16).axis := by
    intro j; rw [hgb]; exact blkOf_lt ct _ j
  iapply (SparseCore.wp_gatherFromWhole countersEmb 𝒱₀ (V d (cV L) (jV L)) none (default : HIx 1) (fineM).view.dmaCredit credit_fine (by decide) hin) $$ [Hcd Hfine Hb HsG]
  · isplitl [Hcd]; · iexact Hcd
    isplitl [Hfine]; · iexact Hfine
    isplitl [Hb]; · iexact Hb
    iexact HsG
  iintro Hfl
  simp only [SparseCore.waitIndirectGather, Prog.bind_lift, Prog.bind_op, Prog.bind_ret]
  iapply (Transfers.wp_waitLocalO countersEmb 𝒱₀ (V d (cV L) (jV L)) none (default : HIx 1) (rfl : (fineM).view.dmaCredit = _)) $$ [Hfl HO]
  · isplitl [Hfl]; · iexact Hfl
    isplitl [HO]; · iexact HO
    iapply (Transfers.MayWaits.elim (SemLoc.dma cc0_scratch6.sem)) $$ Hmw
  iintro ⟨⟨Hfine, Hcd, Hblk⟩, HsG, HO⟩
  ihave Hf := (Entails.of_eq (show ((fineM).view.loc (V d (cV L) (jV L)) ↦{fullShare} View.write (Elt F) fineM.view ff
        (SparseCore.gatherPayload gathers_S62500x16_S800x16 ((cdA).view.read (Elt F) cd) (SparseCore.rows ((blkM).view.read (Elt F) g) rfl hin)) Finset.univ : sProp 𝕄)
      = finePts d L (fetched ct cd (qs L uv t)) from
        congrArg (finePts d L) ((write_fineM _ _).trans (fetched_eq ct cd (qs L uv t) _ _ _ hgb)))) $$ Hfine
  ihave Hb := (Entails.of_eq (show ((blkM).view.loc (V d (cV L) (jV L)) ↦{fullShare} g : sProp 𝕄) = blkPts d L (blkOf ct (qs L uv t)) by
    rw [show g = blkOf ct (qs L uv t) from hgb])) $$ Hblk
  sl_for (fun n _ => iprop(quPts d L (qs L uv t) ∗ blkPts d L (blkOf ct (qs L uv t)) ∗ finePts d L (fetched ct cd (qs L uv t))
      ∗ ∃ g, ⌜Done (drawOf ct (qs L uv t) (fetched ct cd (qs L uv t))) (80 * n) ((posM).view.read (Elt F) g)⌝ ∗ posPts d L g)) $$ [Hq Hb Hf Hpos]
  case region =>
    intro k _
    iintro ⟨Hq, Hb, Hf, %g, %hg, Hp⟩
    iapply (draws_step d L ct (qs L uv t) (fetched ct cd (qs L uv t)) g v39 hv k hg)
    isplitl [Hq]; · iexact Hq
    isplitl [Hb]; · iexact Hb
    isplitl [Hf]; · iexact Hf
    iexact Hp
  · isplitl [Hq]; · iexact Hq
    isplitl [Hb]; · iexact Hb
    isplitl [Hf]; · iexact Hf
    iexists _; isplitr
    rotate_left
    · iexact Hpos
    ipureintro; exact done_zero _ _
  iintro %_ ⟨Hq, Hb, Hf, %p, %hp, Hp⟩
  rw [trips_t4] at hp
  have hpb := done_all hp
  have hip : ∀ j, ((posM).view.read (Elt F) p j).toNat < S1000000x16.size (gathers_S1000000x16_S800x16).axis := by
    intro j; rw [hpb]; exact drawOf_lt ct _ _ j
  iapply (SparseCore.wp_gatherFromWhole countersEmb 𝒱₀ (V d (cV L) (jV L)) none (default : HIx 1) (rowsM).view.dmaCredit credit_rows (by decide) hip) $$ [Hx Hrows Hp HsG]
  · isplitl [Hx]; · iexact Hx
    isplitl [Hrows]; · iexact Hrows
    isplitl [Hp]; · iexact Hp
    iexact HsG
  iintro Hfl
  iapply (Transfers.wp_waitLocalO countersEmb 𝒱₀ (V d (cV L) (jV L)) none (default : HIx 1) (rfl : (rowsM).view.dmaCredit = _)) $$ [Hfl HO]
  · isplitl [Hfl]; · iexact Hfl
    isplitl [HO]; · iexact HO
    iapply (Transfers.MayWaits.elim (SemLoc.dma cc0_scratch6.sem)) $$ Hmw
  iintro ⟨⟨Hrows, Hx, Hpos⟩, HsG, HO⟩
  ihave Hr := (Entails.of_eq (show ((rowsM).view.loc (V d (cV L) (jV L)) ↦{fullShare} View.write (Elt F) rowsM.view fr
        (SparseCore.gatherPayload gathers_S1000000x16_S800x16 ((xA).view.read (Elt F) xv) (SparseCore.rows ((posM).view.read (Elt F) p) rfl hip)) Finset.univ : sProp 𝕄)
      = rowsPts d L (taken ct cd xv (qs L uv t)) from
        congrArg (rowsPts d L) ((write_rowsM _ _).trans (taken_eq ct cd xv (qs L uv t) _ _ _ hpb)))) $$ Hrows
  ihave Hos := (Entails.of_eq (show (_ : sProp 𝕄) = ((oSl L t).view.loc (V d (cV L) (jV L)) ↦[(oSl L t).view.set]{fullShare} f) from rfl)) $$ Ho
  sl_exec
  rw [wp_ret]; imodintro
  ihave Ho := (Entails.of_eq (pointsTo_congr (g := picks ct cd uv xv) (landed L t f ct cd uv xv _ rfl))) $$ Hos
  isplitl [Hcd]; · iexact Hcd
  isplitl [Hu]; · iexact Hu
  isplitl [Hx]; · iexact Hx
  isplitl [Ho]; · iexact Ho
  isplitl [Ht]; · iexact Ht
  isplitl [Hq]; · iexists _; iexact Hq
  isplitl [Hb]; · iexists _; iexact Hb
  isplitl [Hf]; · iexists _; iexact Hf
  isplitl [Hpos]; · iexists _; iexact Hpos
  isplitl [Hr]; · iexists _; iexact Hr
  isplitl [HsG]; · iexact HsG
  isplitl [HsU]; · iexact HsU
  isplitl [HsO]; · iexact HsO
  iexists _; isplitr
  swap; · iexact HO
  ipureintro; intro p hp
  simp only [Finset.mem_insert] at hp
  rcases hp with hp | hp | hp | hp | hp
  iterate 4 exact .inr (hp ▸ rfl)
  exact .inl hp

end Cert.Proof.Run

end
-- ==== Proof.Bounds.lean ====
/-
  Which chunks a tile takes: tile `w = 2 * subcore + core` of the thirty-two takes the chunks from `1250 * w / 32` up to
  `1250 * (w + 1) / 32`, and the remainder loop after them makes no trip.
-/
module

public import proofs.«01_k».proof.Proof.Setup

@[expose] public section

noncomputable section

namespace Cert.Proof.Run

open Cert.KernelIdeal Cert.KernelIdeal.Gen

open Idealize.ShloMosaic

/-- The first chunk of the tile with number `w`, and so the end of the tile before. -/
abbrev chunk0 (w : ℕ) : ℕ := 1250 * w / 32

/-- The number of the tile at a core and a subcore. -/
abbrev wid (L : grid0.Coords) : ℕ := (L 1).val * 2 + (L 0).val

/-- The grid coordinates of subcore `s` of SparseCore `c`. -/
abbrev coordsV (c : Fin (grid0.bound 0)) (s : Fin (grid0.bound 1)) : grid0.Coords :=
  fun | 0 => c | 1 => s | ⟨_ + 2, h⟩ => absurd h (Nat.not_lt.2 (Nat.le_add_left _ _))

/-- A tile's coordinates are made of its two numbers. -/
theorem coordsV_eta (L : grid0.Coords) : coordsV (L 0) (L 1) = L := by
  funext a
  match a with
  | 0 => rfl
  | 1 => rfl

/-- For each of the 32 tiles, computed: where its chunks start, where they stop, and that the remainder loop is empty. -/
theorem bounds_all : ∀ (c : Fin (grid0.bound 0)) (s : Fin (grid0.bound 1)),
    (k0_t1_loop (coordsV c s)).lb = BitVec.ofNat 32 (chunk0 (s.val * 2 + c.val))
      ∧ chunk0 (s.val * 2 + c.val) + (k0_t1_loop (coordsV c s)).trips = chunk0 (s.val * 2 + c.val + 1)
      ∧ (k0_t6_loop (coordsV c s)).trips = 0 := by decide +kernel

/-- Where the tile's chunks start, -/
theorem t1_lb (L : grid0.Coords) : (k0_t1_loop L).lb = BitVec.ofNat 32 (chunk0 (wid L)) := by
  have h := (bounds_all (L 0) (L 1)).1
  rwa [coordsV_eta] at h
/-- how many they are, -/
theorem t1_trips (L : grid0.Coords) : chunk0 (wid L) + (k0_t1_loop L).trips = chunk0 (wid L + 1) := by
  have h := (bounds_all (L 0) (L 1)).2.1
  rwa [coordsV_eta] at h
/-- and the remainder loop's trips. -/
theorem t6_trips (L : grid0.Coords) : (k0_t6_loop L).trips = 0 := by
  have h := (bounds_all (L 0) (L 1)).2.2
  rwa [coordsV_eta] at h

/-- There are 32 tiles. -/
theorem wid_lt (L : grid0.Coords) : wid L < 32 := by
  have h0 : (L 0).val < 2 := (L 0).isLt
  have h1 : (L 1).val < 16 := (L 1).isLt
  show (L 1).val * 2 + (L 0).val < 32
  omega

/-- The first row of a trip's chunk. -/
theorem off5_eq (L : grid0.Coords) (t : Fin (k0_t1_loop L).trips) : k0_off5 L t = ![800 * (chunk0 (wid L) + t.val), 0] := by
  have h1 := t1_trips L
  have h2 := wid_lt L
  have h3 := t.isLt
  have h5 : chunk0 (wid L + 1) ≤ 1250 := by show 1250 * (wid L + 1) / 32 ≤ 1250; omega
  have h4 : ((Scf.iv (k0_t1_loop L).lb 1#32 t.val) * 800#32).toNat = 800 * (chunk0 (wid L) + t.val) := by
    rw [t1_lb]
    generalize chunk0 (wid L) = a at *
    generalize t.val = b at *
    show ((BitVec.ofNat 32 a + BitVec.ofNat 32 b * 1#32) * 800#32).toNat = _
    simp only [BitVec.toNat_add, BitVec.toNat_mul, BitVec.toNat_ofNat]
    omega
  show (![((Scf.iv (k0_t1_loop L).lb 1#32 t.val) * 800#32).toNat, 0] : Fin 2 → ℕ) = _
  rw [h4]

end Cert.Proof.Run

end
-- ==== Proof.Tile.lean ====
/-
  A tile's whole task: the coarse table fetched, then its chunks one after another, each leaving its rows of the result.
-/
module

public import proofs.«01_k».proof.Proof.Chunk
public import proofs.«01_k».proof.Proof.Bounds

@[expose] public section

noncomputable section

namespace Cert.Proof.Run

open Cert.KernelIdeal Cert.KernelIdeal.Gen Cert.Proof.Search

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Tactic

variable {F : FTy → Type} [FloatOps F]

local notation "𝕄" => MT nD τ sig (HIx 1) (Elt F) ℕ UU ℕ

variable (d : Dev nD) (L : grid0.Coords)

/-! ## The rows of the result -/

/-- The result's rows of the chunks from `a` up to `b`. -/
def rowsOf (a b : ℕ) : Finset S1000000x16.Idx := Finset.univ.filter fun i => 800 * a ≤ (i 0).val ∧ (i 0).val < 800 * b

omit [FloatOps F] in
/-- Which rows these are. -/
theorem mem_rowsOf {a b : ℕ} {i : S1000000x16.Idx} : i ∈ rowsOf a b ↔ 800 * a ≤ (i 0).val ∧ (i 0).val < 800 * b := by
  simp only [rowsOf, Finset.mem_filter, Finset.mem_univ, true_and]

/-- Adjacent stretches join, -/
theorem rowsOf_union {a b c : ℕ} (h : a ≤ b) (h' : b ≤ c) : rowsOf a b ∪ rowsOf b c = rowsOf a c := by
  ext i
  simp only [Finset.mem_union, mem_rowsOf]
  omega
/-- stretches that do not overlap share nothing, -/
theorem rowsOf_disjoint {a b c e : ℕ} (h : b ≤ c) : Disjoint (rowsOf a b) (rowsOf c e) := by
  refine Finset.disjoint_left.2 fun i h1 h2 => ?_
  rw [mem_rowsOf] at h1 h2
  omega
/-- and an empty stretch has no rows. -/
theorem rowsOf_self (a : ℕ) : rowsOf a a = ∅ := by
  refine Finset.eq_empty_of_forall_notMem fun i h => ?_
  rw [mem_rowsOf] at h
  omega

/-- The rows that a trip copies out are its chunk's. -/
theorem oSl_set (t : Fin (k0_t1_loop L).trips) : (oSl L t).view.set = rowsOf (chunk0 (wid L) + t.val) (chunk0 (wid L) + t.val + 1) := by
  have ho := off5_eq L t
  have h0 : k0_off5 L t 0 = 800 * (chunk0 (wid L) + t.val) := by rw [ho]; rfl
  have h1 : k0_off5 L t 1 = 0 := by rw [ho]; rfl
  ext i
  rw [mem_rowsOf]
  constructor
  · intro hi
    obtain ⟨x, -, rfl⟩ := Finset.mem_map.1 hi
    have hx : (x 0).val < 800 := (x 0).isLt
    have e : ((oSl L t).view.emb x 0).val = 800 * (chunk0 (wid L) + t.val) + (x 0).val := by
      show k0_off5 L t 0 + 1 * (x 0).val = _
      rw [h0, Nat.one_mul]
    rw [e]; omega
  · intro hi
    refine Finset.mem_map.2 ⟨ix2 (⟨(i 0).val - 800 * (chunk0 (wid L) + t.val), by omega⟩ : Fin 800) (i 1), Finset.mem_univ _, ?_⟩
    funext a
    match a with
    | 0 =>
      refine Fin.ext ?_
      show k0_off5 L t 0 + 1 * ((i 0).val - 800 * (chunk0 (wid L) + t.val)) = (i 0).val
      rw [h0]; omega
    | 1 =>
      refine Fin.ext ?_
      show k0_off5 L t 1 + 1 * (i 1).val = (i 1).val
      rw [h1]; omega

/-- The result's rows of chunks `a` to `b`, held. -/
abbrev oPts (a b : ℕ) (f : Vec F S1000000x16 .f32) : sProp 𝕄 := (oM).view.loc (V d (cV L) (jV L)) ↦[rowsOf a b]{fullShare} f

omit [FloatOps F] in
/-- The rows of two stretches of chunks, one after the other, are the rows of the stretch. -/
theorem oPts_union {a b c : ℕ} (h : a ≤ b) (h' : b ≤ c) (f : Vec F S1000000x16 .f32) :
    (oPts d L a c f : sProp 𝕄) ⊣⊢ iprop(oPts d L a b f ∗ oPts d L b c f) := by
  show ((oM).view.loc (V d (cV L) (jV L)) ↦[rowsOf a c]{fullShare} f : sProp 𝕄) ⊣⊢ _
  rw [← rowsOf_union h h']
  exact pointsTo_union (rowsOf_disjoint le_rfl)

omit [FloatOps F] in
/-- Holding no row says nothing of the contents. -/
theorem oPts_none (a : ℕ) (f g : Vec F S1000000x16 .f32) : (oPts d L a a f : sProp 𝕄) = oPts d L a a g :=
  pointsTo_congr fun i hi => absurd hi (by rw [rowsOf_self]; exact Finset.notMem_empty i)

omit [FloatOps F] in
/-- The rows of one chunk, as the trip names them. -/
theorem oPts_slice (t : Fin (k0_t1_loop L).trips) (f : Vec F S1000000x16 .f32) :
    (oPts d L (chunk0 (wid L) + t.val) (chunk0 (wid L) + t.val + 1) f : sProp 𝕄)
      = ((oSl L t).view.loc (V d (cV L) (jV L)) ↦[(oSl L t).view.set]{fullShare} f) := by
  rw [oSl_set]

/-! ## What the tile owns -/

/-- A DMA semaphore of the tile, -/
abbrev dcell (s : DmaSem sig) : GSem nD τ sig := (V d (cV L) (jV L), .dma s)
/-- and a buffer of the tile, as the device names them. -/
abbrev dref (r : Ref sig .scVector) : DevRef τ sig := (Proc.scVector (cV L) (jV L)).devRef r

/-- Different semaphores are different cells, -/
theorem dcell_ne {s s' : DmaSem sig} (h : s ≠ s') : dcell d L s ≠ dcell d L s' :=
  fun e => h (by simpa [dcell] using e)
/-- and different buffers different places. -/
theorem dref_ne {r r' : Ref sig .scVector} (h : r ≠ r') : dref L r ≠ dref L r' :=
  fun e => h (Proc.devRef_injective _ e)

/-- The tile's semaphores but the four it uses, -/
abbrev cellsLeft : Finset (GSem nD τ sig) :=
  ((((SparseCore.Cfg.ownCells (V d (cV L) (jV L))).erase (dcell d L cc0_scratch6.sem)).erase (dcell d L cc0_scoped0.sem)).erase
    (dcell d L cc0_scoped1.sem)).erase (dcell d L cc0_scoped2.sem)
/-- and its buffers but the six. -/
abbrev refsLeft : Finset (DevRef τ sig) :=
  ((((((SparseCore.Cfg.ownRefs (τ := τ) (.scVector (cV L) (jV L))).erase (dref L cc0_scratch0)).erase (dref L cc0_scratch1)).erase (dref L cc0_scratch2)).erase
    (dref L cc0_scratch3)).erase (dref L cc0_scratch4)).erase (dref L cc0_scratch5)

omit [FloatOps F] in
/-- The four semaphores the task uses are among the tile's own. -/
theorem ownSems_tile :
    (SparseCore.Cfg.ownSems0 (V d (cV L) (jV L)) : sProp 𝕄)
      = iprop(semVal (dcell d L cc0_scratch6.sem) 0 ∗ semVal (dcell d L cc0_scoped0.sem) 0 ∗ semVal (dcell d L cc0_scoped1.sem) 0
          ∗ semVal (dcell d L cc0_scoped2.sem) 0 ∗ bigSep (cellsLeft d L) fun g => semVal g 0) := by
  have own : ∀ s : DmaSem sig, (SemLoc.dma s : SemLoc sig).isScoped .scVector = true → dcell d L s ∈ SparseCore.Cfg.ownCells (V d (cV L) (jV L)) :=
    fun s h => SparseCore.Cfg.mem_ownCells.mpr ⟨rfl, h⟩
  unfold SparseCore.Cfg.ownSems0
  rw [SparseCore.bigSep_erase' (own cc0_scratch6.sem (by decide)),
    SparseCore.bigSep_erase' (Finset.mem_erase.mpr ⟨dcell_ne d L (by decide), own cc0_scoped0.sem (by decide)⟩),
    SparseCore.bigSep_erase' (Finset.mem_erase.mpr ⟨dcell_ne d L (by decide), Finset.mem_erase.mpr ⟨dcell_ne d L (by decide), own cc0_scoped1.sem (by decide)⟩⟩),
    SparseCore.bigSep_erase' (Finset.mem_erase.mpr ⟨dcell_ne d L (by decide), Finset.mem_erase.mpr ⟨dcell_ne d L (by decide),
      Finset.mem_erase.mpr ⟨dcell_ne d L (by decide), own cc0_scoped2.sem (by decide)⟩⟩⟩)]

omit [FloatOps F] in
/-- The six scratch buffers are among the tile's own. -/
theorem ownBufs_tile :
    (SparseCore.Cfg.ownBufs (V d (cV L) (jV L)) : sProp 𝕄)
      = iprop((∃ f, tabPts d L f) ∗ (∃ f, quPts d L f) ∗ (∃ f, blkPts d L f) ∗ (∃ f, finePts d L f) ∗ (∃ f, posPts d L f) ∗ (∃ f, rowsPts d L f)
          ∗ bigSep (refsLeft L) fun b => iprop(∃ f, ((d, b) : Loc nD τ sig) ↦{fullShare} f)) := by
  have own : ∀ r : Ref sig .scVector, (dref L r).owner = .proc (Proc.scVector (cV L) (jV L)) → dref L r ∈ SparseCore.Cfg.ownRefs (τ := τ) (.scVector (cV L) (jV L)) :=
    fun r h => SparseCore.Cfg.mem_ownRefs_of_owner (p := Proc.scVector (cV L) (jV L)) h
  unfold SparseCore.Cfg.ownBufs
  refine (SparseCore.bigSep_erase' (own cc0_scratch0 rfl)).trans ?_
  rw [SparseCore.bigSep_erase' (Finset.mem_erase.mpr ⟨dref_ne L (by decide), own cc0_scratch1 rfl⟩),
    SparseCore.bigSep_erase' (Finset.mem_erase.mpr ⟨dref_ne L (by decide), Finset.mem_erase.mpr ⟨dref_ne L (by decide), own cc0_scratch2 rfl⟩⟩),
    SparseCore.bigSep_erase' (Finset.mem_erase.mpr ⟨dref_ne L (by decide), Finset.mem_erase.mpr ⟨dref_ne L (by decide),
      Finset.mem_erase.mpr ⟨dref_ne L (by decide), own cc0_scratch3 rfl⟩⟩⟩),
    SparseCore.bigSep_erase' (Finset.mem_erase.mpr ⟨dref_ne L (by decide), Finset.mem_erase.mpr ⟨dref_ne L (by decide),
      Finset.mem_erase.mpr ⟨dref_ne L (by decide), Finset.mem_erase.mpr ⟨dref_ne L (by decide), own cc0_scratch4 rfl⟩⟩⟩⟩),
    SparseCore.bigSep_erase' (Finset.mem_erase.mpr ⟨dref_ne L (by decide), Finset.mem_erase.mpr ⟨dref_ne L (by decide),
      Finset.mem_erase.mpr ⟨dref_ne L (by decide), Finset.mem_erase.mpr ⟨dref_ne L (by decide), Finset.mem_erase.mpr ⟨dref_ne L (by decide),
        own cc0_scratch5 rfl⟩⟩⟩⟩⟩)]
  rfl

/-! ## The task -/

/-- Lane `x` of the iota is `x`. -/
theorem iota_lane (x : S16.Idx) : (iota .scVector S16 32 [0] iota_S16_d0_w32_scVector : IVec S16 32) x = BitVec.ofNat 32 (x 0).val := by
  show BitVec.ofNat 32 (0 * 16 + (x 0).val) = _
  rw [Nat.zero_mul, Nat.zero_add]

/-- A tile's share of the four operands that all tiles read. -/
abbrev readPts (q : PosShare TreeShare) (ct : Vec F S65536 .f32) (cd : Vec F S62500x16 .f32) (uv : Vec F S1000000 .f32) (xv : Vec F S1000000x16 .f32) : sProp 𝕄 :=
  iprop(((ctM).view.loc (V d (cV L) (jV L)) ↦{q} ct) ∗ ((cdM).view.loc (V d (cV L) (jV L)) ↦{q} cd) ∗ ((uM).view.loc (V d (cV L) (jV L)) ↦{q} uv)
    ∗ ((xM).view.loc (V d (cV L) (jV L)) ↦{q} xv))

/-- Between a tile's chunks: the rows of those behind hold what their queries draw, the rows of those ahead are as they were. -/
def tileInv (ct : Vec F S65536 .f32) (cd : Vec F S62500x16 .f32) (uv : Vec F S1000000 .f32) (xv : Vec F S1000000x16 .f32)
    (q : PosShare TreeShare) (f : Vec F S1000000x16 .f32) (O : CellTallies nD τ sig (HIx 1)) (W : Waits sig (HIx 1)) (n : ℕ) (_ : Unit) : sProp 𝕄 :=
  iprop(Transfers.MayWaits (V d (cV L) (jV L)) (default : HIx 1) O
    ∗ ((cdA).view.loc (V d (cV L) (jV L)) ↦{q} cd) ∗ ((uM).view.loc (V d (cV L) (jV L)) ↦{q} uv) ∗ ((xA).view.loc (V d (cV L) (jV L)) ↦{q} xv)
    ∗ oPts d L (chunk0 (wid L)) (chunk0 (wid L) + n) (picks ct cd uv xv) ∗ oPts d L (chunk0 (wid L) + n) (chunk0 (wid L + 1)) f
    ∗ tabPts d L ct ∗ (∃ w, quPts d L w) ∗ (∃ w, blkPts d L w) ∗ (∃ w, finePts d L w) ∗ (∃ w, posPts d L w) ∗ (∃ w, rowsPts d L w)
    ∗ semVal (V d (cV L) (jV L), SemLoc.dma cc0_scratch6.sem) 0 ∗ semVal (V d (cV L) (jV L), SemLoc.dma cc0_scoped1.sem) 0
    ∗ semVal (V d (cV L) (jV L), SemLoc.dma cc0_scoped2.sem) 0
    ∗ ∃ W', ⌜∀ p ∈ W', p ∈ W ∨ p.2 = none⌝ ∗ owes (V d (cV L) (jV L)) O W')

/-- One chunk more. -/
theorem tile_trip (ct : Vec F S65536 .f32) (cd : Vec F S62500x16 .f32) (uv : Vec F S1000000 .f32) (xv : Vec F S1000000x16 .f32)
    (q : PosShare TreeShare) (f : Vec F S1000000x16 .f32) (O : CellTallies nD τ sig (HIx 1)) (W : Waits sig (HIx 1)) (t : Fin (k0_t1_loop L).trips) :
    tileInv d L ct cd uv xv q f O W t.val ⟨⟩ ⊢ wp frame (wpE (defs₀ (F := F)) 𝒱₀ (V d (cV L) (jV L)) none) Set.univ
      (chunkT L (iota .scVector S16 32 [0] iota_S16_d0_w32_scVector) t ⟨⟩) fun _ => tileInv d L ct cd uv xv q f O W (t.val + 1) ⟨⟩ := by
  have h1 := t1_trips L
  have h2 := t.isLt
  unfold tileInv
  iintro ⟨#Hmw, Hcd, Hu, Hx, Hd, Ho, Htab, ⟨%fu, Hqu⟩, ⟨%fb, Hblk⟩, ⟨%ff, Hfine⟩, ⟨%fp, Hpos⟩, ⟨%fr, Hrows⟩, HsG, HsU, HsO, %W', %hW', HO⟩
  ihave ⟨Hc, Ho⟩ := (oPts_union d L (Nat.le_add_right (chunk0 (wid L) + t.val) 1) (by omega) f).1 $$ Ho
  ihave Hc := (Entails.of_eq (oPts_slice d L t f)) $$ Hc
  iapply (wp_wand frame _ _) $$ [Hcd Hu Hx Hc Htab Hqu Hblk Hfine Hpos Hrows HsG HsU HsO HO]
  · iapply (chunk_step d L ct cd uv xv q _ iota_lane t f fu fb ff fp fr O W')
    isplitr; · iexact Hmw
    isplitl [Hcd]; · iexact Hcd
    isplitl [Hu]; · iexact Hu
    isplitl [Hx]; · iexact Hx
    isplitl [Hc]; · iexact Hc
    isplitl [Htab]; · iexact Htab
    isplitl [Hqu]; · iexact Hqu
    isplitl [Hblk]; · iexact Hblk
    isplitl [Hfine]; · iexact Hfine
    isplitl [Hpos]; · iexact Hpos
    isplitl [Hrows]; · iexact Hrows
    isplitl [HsG]; · iexact HsG
    isplitl [HsU]; · iexact HsU
    isplitl [HsO]; · iexact HsO
    iexact HO
  iintro %_ ⟨Hcd, Hu, Hx, Hc, Htab, Hqu, Hblk, Hfine, Hpos, Hrows, HsG, HsU, HsO, %W'', %hW'', HO⟩
  ihave Hc := (Entails.of_eq (oPts_slice d L t (picks ct cd uv xv)).symm) $$ Hc
  ihave Hd := (oPts_union d L (Nat.le_add_right (chunk0 (wid L)) t.val) (Nat.le_add_right _ 1) (picks ct cd uv xv)).2 $$ [Hd Hc]
  · isplitl [Hd] <;> iassumption
  isplitr; · iexact Hmw
  isplitl [Hcd]; · iexact Hcd
  isplitl [Hu]; · iexact Hu
  isplitl [Hx]; · iexact Hx
  isplitl [Hd]; · iexact Hd
  isplitl [Ho]; · iexact Ho
  isplitl [Htab]; · iexact Htab
  isplitl [Hqu]; · iexact Hqu
  isplitl [Hblk]; · iexact Hblk
  isplitl [Hfine]; · iexact Hfine
  isplitl [Hpos]; · iexact Hpos
  isplitl [Hrows]; · iexact Hrows
  isplitl [HsG]; · iexact HsG
  isplitl [HsU]; · iexact HsU
  isplitl [HsO]; · iexact HsO
  iexists W''; isplitr
  swap; · iexact HO
  ipureintro; intro p hp
  rcases hW'' p hp with h | h
  · exact hW' p h
  · exact .inr h

set_option maxHeartbeats 4000000 in
/-- The whole body of a tile: from its share of the tables and its rows of the result in any state, it ends with the drawn rows there and gives everything back. -/
theorem tile_body (ct : Vec F S65536 .f32) (cd : Vec F S62500x16 .f32) (uv : Vec F S1000000 .f32) (xv : Vec F S1000000x16 .f32)
    (q : PosShare TreeShare) (f : Vec F S1000000x16 .f32) (hF : (K (F := F)).Facts) (O : CellTallies nD τ sig (HIx 1)) (W : Waits sig (HIx 1))
    (hO : ∀ g, O g none = 0) :
    iprop(levAts (K (F := F)).L (K (F := F)).lev ∗ emp
        ∗ (readPts d L q ct cd uv xv ∗ oPts d L (chunk0 (wid L)) (chunk0 (wid L + 1)) f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (bodyT L)
          fun _ => iprop((readPts d L q ct cd uv xv ∗ oPts d L (chunk0 (wid L)) (chunk0 (wid L + 1)) (picks ct cd uv xv))
            ∗ scopedBufs (V d (cV L) (jV L)) ∗ scopedSems0 (V d (cV L) (jV L))
            ∗ ∃ W', ⌜∀ p ∈ W', p ∈ W ∨ p.2 = none⌝ ∗ owes (V d (cV L) (jV L)) O W') := by
  unfold bodyT
  simp only [cc0__sc_body_eq_skeleton]; unfold cc0__sc_body_skel
  simp only [k0_part9_eq_skeleton]; unfold k0_part9_skel
  rw [(K (F := F)).scopedBufs_V hF d (cV L) (jV L), SparseCore.Cfg.scopedSems0_V (Val := Elt F) d (cV L) (jV L), ownSems_tile, ownBufs_tile]
  iintro ⟨#Hlv, -, ⟨⟨Hct, Hcd, Hu, Hx⟩, Ho⟩, ⟨⟨%ft, Htab⟩, Hqu, Hblk, Hfine, Hpos, Hrows, Hbufs⟩, ⟨HsG, HsT, HsU, HsO, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_exec
  ihave Htab := (Entails.of_eq (show ((tabM).view.loc (V d (cV L) (jV L)) ↦{fullShare} View.write (Elt F) tabM.view ft (tile_body.sl.dma0 ct) Finset.univ : sProp 𝕄)
      = tabPts d L ct from congrArg (tabPts d L) (View.write_whole_univ _ _ _))) $$ Htab
  have hle := t1_trips L
  ihave ⟨Hd, Ho⟩ := (oPts_union d L (le_refl (chunk0 (wid L))) (by omega) f).1 $$ Ho
  ihave Hd := (Entails.of_eq (oPts_none d L (chunk0 (wid L)) f (picks ct cd uv xv))) $$ Hd
  sl_for (tileInv d L ct cd uv xv q f O W) $$ [Hcd Hu Hx Hd Ho Htab Hqu Hblk Hfine Hpos Hrows HsG HsU HsO HO]
  case region =>
    intro t _
    exact tile_trip d L ct cd uv xv q f O W t
  · unfold tileInv
    isplitr; · iexact Hmw
    isplitl [Hcd]; · iexact Hcd
    isplitl [Hu]; · iexact Hu
    isplitl [Hx]; · iexact Hx
    isplitl [Hd]; · iexact Hd
    isplitl [Ho]; · iexact Ho
    isplitl [Htab]; · iexact Htab
    isplitl [Hqu]; · iexact Hqu
    isplitl [Hblk]; · iexact Hblk
    isplitl [Hfine]; · iexact Hfine
    isplitl [Hpos]; · iexact Hpos
    isplitl [Hrows]; · iexact Hrows
    isplitl [HsG]; · iexact HsG
    isplitl [HsU]; · iexact HsU
    isplitl [HsO]; · iexact HsO
    iexists _; isplitr
    swap; · iexact HO
    ipureintro; intro p hp
    rcases Finset.mem_insert.mp hp with hp | hp
    · exact .inr (hp ▸ rfl)
    · exact .inl hp
  iintro %_ HI
  unfold tileInv
  icases HI with ⟨-, Hcd, Hu, Hx, Hd, Ho, Htab, Hqu, Hblk, Hfine, Hpos, Hrows, HsG, HsU, HsO, %W', %hW', HO⟩
  rw [show chunk0 (wid L) + Scf.trips (k0_t1_loop L).lb (k0_t1_loop L).ub (k0_t1_loop L).st = chunk0 (wid L + 1) from hle]
  sl_for (fun _ _ => iprop(semVal (dcell d L cc0_scoped0.sem) 0)) $$ [HsT]
  case region =>
    intro k
    exact absurd (lt_of_lt_of_eq k.isLt (t6_trips L)) (Nat.not_lt_zero _)
  · iexact HsT
  iintro %_ HsT
  sl_exec
  rw [wp_ret]; imodintro
  isplitl [Hct Hcd Hu Hx Hd]
  · isplitl [Hct Hcd Hu Hx]
    · isplitl [Hct]; · iexact Hct
      isplitl [Hcd]; · iexact Hcd
      isplitl [Hu]; · iexact Hu
      iexact Hx
    iexact Hd
  isplitl [Htab Hqu Hblk Hfine Hpos Hrows Hbufs]
  · isplitl [Htab]; · iexists _; iexact Htab
    isplitl [Hqu]; · iexact Hqu
    isplitl [Hblk]; · iexact Hblk
    isplitl [Hfine]; · iexact Hfine
    isplitl [Hpos]; · iexact Hpos
    isplitl [Hrows]; · iexact Hrows
    iexact Hbufs
  isplitl [HsG HsT HsU HsO Hsems]
  · isplitl [HsG]; · iexact HsG
    isplitl [HsT]; · iexact HsT
    isplitl [HsU]; · iexact HsU
    isplitl [HsO]; · iexact HsO
    iexact Hsems
  iexists W'; isplitr
  · ipureintro; exact hW'
  · iexact HO

end Cert.Proof.Run

end
-- ==== Proof.Split.lean ====
/-
  How the call's five arrays are dealt to the thirty-two tiles: of the four that are only read each tile takes a share,
  of the result its own rows; and how they come back.
-/
module

public import proofs.«01_k».proof.Proof.Tile

@[expose] public section

noncomputable section

namespace Cert.Proof.Run

open Cert.KernelIdeal Cert.KernelIdeal.Gen Cert.Proof.Search

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

omit [FloatOps F] in
/-- Assertions that entail each other are the same. -/
theorem same {P Q : sProp 𝕄} (h : P ⊢ Q) (h' : Q ⊢ P) : P = Q := BI.Entails.antisymm h h'

/-! ## Shares -/

/-- What is left of the full share after `n` takers, each of whom took the left half of what was there. -/
def restShare : ℕ → PosShare TreeShare
  | 0 => fullShare
  | n + 1 => (restShare n).right
/-- What taker `n` took. -/
abbrev share (n : ℕ) : PosShare TreeShare := (restShare n).left

omit [FloatOps F] in
/-- A whole array is the shares of the first `n` takers and what is left. -/
theorem pts_shares {ℓ : Loc nD τ sig} (f : Buf (Elt F) ℓ) : ∀ n : ℕ,
    (ℓ ↦{fullShare} f : sProp 𝕄) = iprop((bigSep (Finset.range n) fun k => ℓ ↦{share k} f) ∗ ℓ ↦{restShare n} f)
  | 0 => by
    rw [Finset.range_zero, bigSep_empty]
    exact same (by iintro H; isplitr <;> [iempintro; iexact H]) (by iintro ⟨-, H⟩; iexact H)
  | n + 1 => by
    have hs : (ℓ ↦{restShare n} f : sProp 𝕄) ⊣⊢ iprop((ℓ ↦{share n} f) ∗ ℓ ↦{restShare (n + 1)} f) :=
      pointsTo_share (PosShare.mem_left_op_right (restShare n))
    rw [pts_shares f n, Finset.range_add_one, SparseCore.bigSep_insert' Finset.notMem_range_self]
    refine same ?_ ?_
    · iintro ⟨Ha, Hb⟩
      ihave ⟨Hc, Hd⟩ := hs.1 $$ Hb
      isplitr [Hd]
      · isplitl [Hc] <;> iassumption
      iexact Hd
    · iintro ⟨⟨Hc, Ha⟩, Hd⟩
      isplitl [Ha]; · iexact Ha
      iapply hs.2
      isplitl [Hc] <;> iassumption

/-! ## Rows -/

/-- Later tiles start later. -/
theorem chunk0_mono {a b : ℕ} (h : a ≤ b) : chunk0 a ≤ chunk0 b := Nat.div_le_div_right (Nat.mul_le_mul_left _ h)

/-- The tiles' rows are all the rows, -/
theorem tileRows_cover : (Finset.range 32).biUnion (fun k => rowsOf (chunk0 k) (chunk0 (k + 1))) = Finset.univ := by
  have h : ∀ n, (Finset.range n).biUnion (fun k => rowsOf (chunk0 k) (chunk0 (k + 1))) = rowsOf (chunk0 0) (chunk0 n) := fun n => by
    induction n with
    | zero => rw [Finset.range_zero, Finset.biUnion_empty, rowsOf_self]
    | succ n ih => rw [Finset.range_add_one, Finset.biUnion_insert, ih, Finset.union_comm, rowsOf_union (chunk0_mono (Nat.zero_le _)) (chunk0_mono (Nat.le_succ _))]
  rw [h]
  refine Finset.eq_univ_iff_forall.2 fun i => mem_rowsOf.2 ⟨?_, ?_⟩
  · exact Nat.zero_le _
  · have : (i 0).val < 1000000 := (i 0).isLt
    show (i 0).val < 800 * (1250 * 32 / 32)
    omega
/-- and no two tiles have one in common. -/
theorem tileRows_disjoint : ∀ a ∈ Finset.range 32, ∀ b ∈ Finset.range 32, a ≠ b →
    Disjoint (rowsOf (chunk0 a) (chunk0 (a + 1))) (rowsOf (chunk0 b) (chunk0 (b + 1))) := fun a _ b _ hab => by
  rcases Nat.lt_or_gt_of_ne hab with h | h
  · exact rowsOf_disjoint (chunk0_mono h)
  · exact (rowsOf_disjoint (chunk0_mono h)).symm

/-! ## Both -/

section Deal

variable (d : Dev nD) (ct : Vec F S65536 .f32) (cd : Vec F S62500x16 .f32) (uv : Vec F S1000000 .f32) (xv f : Vec F S1000000x16 .f32)

/-- The coarse table in the device's memory, -/
abbrev ctLoc : Loc nD τ sig := (SparseCore.T d).loc main_v19
/-- the fine table, -/
abbrev cdLoc : Loc nD τ sig := (SparseCore.T d).loc main_v15
/-- the queries, -/
abbrev uLoc : Loc nD τ sig := (SparseCore.T d).loc main_arg5
/-- the data -/
abbrev xLoc : Loc nD τ sig := (SparseCore.T d).loc main_arg0
/-- and the result. -/
abbrev oLoc : Loc nD τ sig := (SparseCore.T d).loc main_v20

/-- What tile `k` takes, and brings back with its rows of the result written. -/
abbrev dealt (k : ℕ) : sProp 𝕄 :=
  iprop(((ctLoc d ↦{share k} ct) ∗ (cdLoc d ↦{share k} cd) ∗ (uLoc d ↦{share k} uv) ∗ (xLoc d ↦{share k} xv))
    ∗ oLoc d ↦[rowsOf (chunk0 k) (chunk0 (k + 1))]{fullShare} f)

/-- What the TensorCore keeps meanwhile. -/
abbrev kept : sProp 𝕄 :=
  iprop((ctLoc d ↦{restShare 32} ct) ∗ (cdLoc d ↦{restShare 32} cd) ∗ (uLoc d ↦{restShare 32} uv) ∗ (xLoc d ↦{restShare 32} xv))

/-- The five arrays whole. -/
abbrev whole5 : sProp 𝕄 :=
  iprop((ctLoc d ↦{fullShare} ct) ∗ (cdLoc d ↦{fullShare} cd) ∗ (uLoc d ↦{fullShare} uv) ∗ (xLoc d ↦{fullShare} xv) ∗ oLoc d ↦{fullShare} f)

omit [FloatOps F] in
/-- The result is its tiles' rows, held one by one. -/
theorem oLoc_rows : (oLoc d ↦{fullShare} f : sProp 𝕄)
    = bigSep (Finset.range 32) fun k => oLoc d ↦[rowsOf (chunk0 k) (chunk0 (k + 1))]{fullShare} f := by
  refine Eq.trans ?_ (pointsTo_biUnion (Finset.range 32) (ℓ := oLoc d) (fun k => rowsOf (chunk0 k) (chunk0 (k + 1))) tileRows_disjoint)
  rw [tileRows_cover]

omit [FloatOps F] in
/-- The arrays whole are what the thirty-two tiles take and what is kept. -/
theorem deal_range : (whole5 d ct cd uv xv f : sProp 𝕄) = iprop((bigSep (Finset.range 32) fun k => dealt d ct cd uv xv f k) ∗ kept d ct cd uv xv) := by
  unfold whole5
  rw [pts_shares (ℓ := ctLoc d) ct 32, pts_shares (ℓ := cdLoc d) cd 32, pts_shares (ℓ := uLoc d) uv 32, pts_shares (ℓ := xLoc d) xv 32, oLoc_rows]
  simp only [bigSep_sep']
  refine same ?_ ?_
  · iintro ⟨⟨H1, R1⟩, ⟨H2, R2⟩, ⟨H3, R3⟩, ⟨H4, R4⟩, H5⟩
    isplitr [R1 R2 R3 R4]
    · isplitr [H5]
      · isplitl [H1]; · iexact H1
        isplitl [H2]; · iexact H2
        isplitl [H3] <;> iassumption
      iexact H5
    isplitl [R1]; · iexact R1
    isplitl [R2]; · iexact R2
    isplitl [R3] <;> iassumption
  · iintro ⟨⟨⟨H1, H2, H3, H4⟩, H5⟩, R1, R2, R3, R4⟩
    isplitl [H1 R1]; · isplitl [H1] <;> iassumption
    isplitl [H2 R2]; · isplitl [H2] <;> iassumption
    isplitl [H3 R3]; · isplitl [H3] <;> iassumption
    isplitl [H4 R4]; · isplitl [H4] <;> iassumption
    iexact H5

omit [FloatOps F] in
/-- A family over the tiles' numbers is one over the cores and their subcores. -/
theorem bigSep_tiles (Φ : ℕ → sProp 𝕄) :
    (bigSep (Finset.range 32) Φ) = bigSep Finset.univ fun c : Fin 2 => bigSep Finset.univ fun i : Fin 16 => Φ (i.val * 2 + c.val) := by
  rw [← bigSep_univ_prod (fun x : Fin 2 × Fin 16 => Φ (x.2.val * 2 + x.1.val)), show Finset.range 32 = Finset.univ.map
    (⟨fun x : Fin 2 × Fin 16 => x.2.val * 2 + x.1.val, fun x y h => by
        have h' : x.2.val * 2 + x.1.val = y.2.val * 2 + y.1.val := h
        have := x.1.isLt; have := y.1.isLt
        exact Prod.ext (Fin.ext (by omega)) (Fin.ext (by omega))⟩ : Fin 2 × Fin 16 ↪ ℕ) from by decide +kernel, bigSep_map]
  rfl

omit [FloatOps F] in
/-- The same, the tiles by core and subcore. -/
theorem deal : (whole5 d ct cd uv xv f : sProp 𝕄)
    = iprop((bigSep Finset.univ fun c : Fin 2 => bigSep Finset.univ fun i : Fin 16 => dealt d ct cd uv xv f (i.val * 2 + c.val)) ∗ kept d ct cd uv xv) := by
  rw [deal_range, bigSep_tiles (fun k => dealt d ct cd uv xv f k)]

end Deal

end Cert.Proof.Run

end
-- ==== Proof.Host.lean ====
/-
  What the host does before the SparseCore call, as a list of operations, and what it leaves in the two tables that the
  call reads, as functions of the arguments.
-/
module

public import proofs.«01_k».proof.Proof.Setup

@[expose] public section

noncomputable section

namespace Cert.Proof.Run

open Cert.KernelIdeal Cert.KernelIdeal.Gen

open Idealize.ShloMosaic Idealize.ShloMosaic.TcCoe Idealize.SL.Sem Idealize.ShloMosaic.StableHlo

variable {F : FTy → Type} [FloatOps F]

/-! ## The operations -/

/-- The host's operations before the call, in order. -/
abbrev hostOps : List (HloOp τ sig (Elt F)) :=
  [ binary main_arg0 main_arg1 main_v0 ((fun l r => Host.dotGeneral dot_S1000000x16_S16x64_S1000000x64_1_0_0_1_n_n none l r) : (⟨S1000000x16, .f32⟩ : BufTy).Contents (Elt F) → (⟨S16x64, .f32⟩ : BufTy).Contents (Elt F) → (⟨S1000000x64, .f32⟩ : BufTy).Contents (Elt F)),
    unary main_arg2 main_v1 (broadcastInDim S1x64 ![1] bcast_S64_S1x64_1 : (⟨S64, .f32⟩ : BufTy).Contents (Elt F) → (⟨S1x64, .f32⟩ : BufTy).Contents (Elt F)),
    unary main_v1 main_v2 (broadcastInDim S1000000x64 ![0, 1] bcast_S1x64_S1000000x64_0_1 : (⟨S1x64, .f32⟩ : BufTy).Contents (Elt F) → (⟨S1000000x64, .f32⟩ : BufTy).Contents (Elt F)),
    binary main_v0 main_v2 main_v3 (addf : (⟨S1000000x64, .f32⟩ : BufTy).Contents (Elt F) → (⟨S1000000x64, .f32⟩ : BufTy).Contents (Elt F) → (⟨S1000000x64, .f32⟩ : BufTy).Contents (Elt F)),
    unary main_v3 main_v4 (Host.tanh : (⟨S1000000x64, .f32⟩ : BufTy).Contents (Elt F) → (⟨S1000000x64, .f32⟩ : BufTy).Contents (Elt F)),
    binary main_v4 main_arg3 main_v5 ((fun l r => Host.dotGeneral dot_S1000000x64_S64x1_S1000000x1_1_0_0_1_n_n none l r) : (⟨S1000000x64, .f32⟩ : BufTy).Contents (Elt F) → (⟨S64x1, .f32⟩ : BufTy).Contents (Elt F) → (⟨S1000000x1, .f32⟩ : BufTy).Contents (Elt F)),
    unary main_arg4 main_v6 (broadcastInDim S1x1 ![1] bcast_S1_S1x1_1 : (⟨S1, .f32⟩ : BufTy).Contents (Elt F) → (⟨S1x1, .f32⟩ : BufTy).Contents (Elt F)),
    unary main_v6 main_v7 (broadcastInDim S1000000x1 ![0, 1] bcast_S1x1_S1000000x1_0_1 : (⟨S1x1, .f32⟩ : BufTy).Contents (Elt F) → (⟨S1000000x1, .f32⟩ : BufTy).Contents (Elt F)),
    binary main_v5 main_v7 main_v8 (addf : (⟨S1000000x1, .f32⟩ : BufTy).Contents (Elt F) → (⟨S1000000x1, .f32⟩ : BufTy).Contents (Elt F) → (⟨S1000000x1, .f32⟩ : BufTy).Contents (Elt F)),
    reshape main_v8 main_v9 (rfl : (.f32 : EltTy) = .f32) shapeCasts_S1000000x1_S1000000,
    unary main_v9 main_v10 (Host.exp : (⟨S1000000, .f32⟩ : BufTy).Contents (Elt F) → (⟨S1000000, .f32⟩ : BufTy).Contents (Elt F)),
    nullary main_cst (constant S_ .f32 0x00000000#32),
    binary main_v10 main_cst main_v11 ((fun x v => Host.reduceAdd x v reducesTo_S1000000_S_d0 h_S_) : (⟨S1000000, .f32⟩ : BufTy).Contents (Elt F) → (⟨S_, .f32⟩ : BufTy).Contents (Elt F) → (⟨S_, .f32⟩ : BufTy).Contents (Elt F)),
    unary main_v11 main_v12 (broadcastInDim S1000000 ![] bcast_S_S1000000 : (⟨S_, .f32⟩ : BufTy).Contents (Elt F) → (⟨S1000000, .f32⟩ : BufTy).Contents (Elt F)),
    binary main_v10 main_v12 main_v13 (Host.divf : (⟨S1000000, .f32⟩ : BufTy).Contents (Elt F) → (⟨S1000000, .f32⟩ : BufTy).Contents (Elt F) → (⟨S1000000, .f32⟩ : BufTy).Contents (Elt F)),
    TRef.nullary (TRef.of (T := ⟨S_, .f32⟩) main_call0_call0_cst) (constant S_ .f32 0x00000000#32),
    TRef.unary (TRef.of (T := ⟨S_, .f32⟩) main_call0_call0_cst) (TRef.of (T := ⟨S_, .f32⟩) main_call0_call0_v0) (broadcastInDim S_ ![] bcast_S_S_),
    TRef.binary (TRef.of (T := ⟨S1000000, .f32⟩) main_v13) (TRef.of (T := ⟨S_, .f32⟩) main_call0_call0_v0) (TRef.of (T := ⟨S1000000, .f32⟩) main_v14) (fun x v => Host.reduceWindowAdd ![1000000] ![1] ![999999] ![0] x v reduceWindows_S1000000_S1000000_w1000000s1p999999_0 h_S_),
    reshape main_v14 main_v15 (rfl : (.f32 : EltTy) = .f32) shapeCasts_S1000000_S62500x16,
    unary main_v15 main_v16 ((extractStridedSlice S62500x1 ![0, 15] · slices_S62500x16_S62500x1_0_15) : (⟨S62500x16, .f32⟩ : BufTy).Contents (Elt F) → (⟨S62500x1, .f32⟩ : BufTy).Contents (Elt F)),
    reshape main_v16 main_v17 (rfl : (.f32 : EltTy) = .f32) shapeCasts_S62500x1_S62500,
    nullary main_cst_0 (constant S_ .f32 0x40000000#32),
    unary main_cst_0 main_v18 (broadcastInDim S3036 ![] bcast_S_S3036 : (⟨S_, .f32⟩ : BufTy).Contents (Elt F) → (⟨S3036, .f32⟩ : BufTy).Contents (Elt F)),
    binary main_v17 main_v18 main_v19 ((fun a b => concatenate S65536 0 [⟨S62500, a⟩, ⟨S3036, b⟩] concatenates_S62500_S3036_S65536_d0) : (⟨S62500, .f32⟩ : BufTy).Contents (Elt F) → (⟨S3036, .f32⟩ : BufTy).Contents (Elt F) → (⟨S65536, .f32⟩ : BufTy).Contents (Elt F)) ]

set_option maxRecDepth 8192 in
/-- The program is these operations, then the call. -/
theorem main_eq (d : Dev nD) : main (F := F) d = (seq hostOps >>= fun _ => sc.run d 0 >>= fun _ => pure ⟨⟩) := by
  rw [seq_bind_seqK]
  rfl

set_option maxRecDepth 8192 in
/-- They touch the TensorCore's buffers only. -/
theorem hostOps_sub : (hostOps : List (HloOp τ sig (Elt F))).Forall fun op => op.bufs ⊆ tcRefs τ sig :=
  ⟨binary_bufs_sub .., unary_bufs_sub .., unary_bufs_sub .., binary_bufs_sub .., unary_bufs_sub .., binary_bufs_sub .., unary_bufs_sub .., unary_bufs_sub .., binary_bufs_sub .., reshape_bufs_sub .., unary_bufs_sub .., nullary_bufs_sub .., binary_bufs_sub .., unary_bufs_sub .., binary_bufs_sub .., nullary_bufs_sub .., unary_bufs_sub .., binary_bufs_sub .., reshape_bufs_sub .., unary_bufs_sub .., reshape_bufs_sub .., nullary_bufs_sub .., unary_bufs_sub .., binary_bufs_sub ..⟩

/-- None of them allocates. -/
theorem hostOps_fresh : ∀ op ∈ (hostOps : List (HloOp τ sig (Elt F))), op.fresh = ∅ :=
  List.forall_iff_forall_mem.1 (by repeat' first | exact trivial | rfl | refine ⟨rfl, ?_⟩)

/-! ## The two tables -/

/-- The weight of each row: the exponential of its score under the two-layer map. -/
def weights (x : Vec F S1000000x16 .f32) (W1 : Vec F S16x64 .f32) (b1 : Vec F S64 .f32) (W2 : Vec F S64x1 .f32) (b2 : Vec F S1 .f32) :
    Vec F S1000000 .f32 :=
  Host.exp (shapeCast S1000000
    (addf (Host.dotGeneral dot_S1000000x64_S64x1_S1000000x1_1_0_0_1_n_n none
        (Host.tanh (addf (Host.dotGeneral dot_S1000000x16_S16x64_S1000000x64_1_0_0_1_n_n none x W1)
          (broadcastInDim S1000000x64 ![0, 1] bcast_S1x64_S1000000x64_0_1 (broadcastInDim S1x64 ![1] bcast_S64_S1x64_1 b1)))) W2)
      (broadcastInDim S1000000x1 ![0, 1] bcast_S1x1_S1000000x1_0_1 (broadcastInDim S1x1 ![1] bcast_S1_S1x1_1 b2)))
    shapeCasts_S1000000x1_S1000000)

/-- The running sums of the weights over their total. -/
def cdfOf (w : Vec F S1000000 .f32) : Vec F S1000000 .f32 :=
  Host.reduceWindowAdd ![1000000] ![1] ![999999] ![0]
    (Host.divf w (broadcastInDim S1000000 ![] bcast_S_S1000000
      (Host.reduceAdd w (constant S_ .f32 0x00000000#32) reducesTo_S1000000_S_d0 h_S_)))
    (broadcastInDim S_ ![] bcast_S_S_ (constant S_ .f32 0x00000000#32))
    reduceWindows_S1000000_S1000000_w1000000s1p999999_0 h_S_

/-- The running sums in blocks of sixteen, -/
def fineOf (c : Vec F S1000000 .f32) : Vec F S62500x16 .f32 := shapeCast S62500x16 c shapeCasts_S1000000_S62500x16

/-- and the last of each block, with 2 behind them up to a power of two. -/
def coarseOf (c : Vec F S1000000 .f32) : Vec F S65536 .f32 :=
  concatenate S65536 0
    [⟨S62500, shapeCast S62500 (extractStridedSlice S62500x1 ![0, 15] (fineOf c) slices_S62500x16_S62500x1_0_15) shapeCasts_S62500x1_S62500⟩,
     ⟨S3036, broadcastInDim S3036 ![] bcast_S_S3036 (constant S_ .f32 0x40000000#32)⟩]
    concatenates_S62500_S3036_S65536_d0

variable (m : (ℓ : Loc nD τ sig) → Buf (Elt F) ℓ)

/-- The memory of a device when the call starts. -/
abbrev atCall (d : Dev nD) : Valuation τ sig (Elt F) := after hostOps (launchContents m d)

/-- The running sums as a function of the launch memory. -/
abbrev cdf (d : Dev nD) : Vec F S1000000 .f32 :=
  cdfOf (weights (m ((d.tc : Thread nD τ).loc main_arg0)) (m ((d.tc : Thread nD τ).loc main_arg1)) (m ((d.tc : Thread nD τ).loc main_arg2))
    (m ((d.tc : Thread nD τ).loc main_arg3)) (m ((d.tc : Thread nD τ).loc main_arg4)))

set_option maxRecDepth 8192 in
/-- The block table when the call starts, -/
theorem atCall_fine (d : Dev nD) : atCall m d (Proc.devRef .tc main_v15) = fineOf (cdf m d) := by
  simp only [atCall, hostOps, TRef.binary, TRef.nullary, TRef.unary, TRef.toBuf, TRef.ofBuf, cast_eq]
  after_results_simp <;> rfl
set_option maxRecDepth 8192 in
/-- the coarse table, -/
theorem atCall_coarse (d : Dev nD) : atCall m d (Proc.devRef .tc main_v19) = coarseOf (cdf m d) := by
  simp only [atCall, hostOps, TRef.binary, TRef.nullary, TRef.unary, TRef.toBuf, TRef.ofBuf, cast_eq]
  after_results_simp <;> rfl

/-- and the arguments, which the host only reads. -/
theorem atCall_args (d : Dev nD) (r : Ref sig .tc) (h : r ∈ ([main_arg0, main_arg1, main_arg2, main_arg3, main_arg4, main_arg5] : List (Ref sig .tc))) :
    atCall m d (Proc.devRef .tc r) = m ((d.tc : Thread nD τ).loc r) := by
  simp only [List.mem_cons, List.not_mem_nil, or_false] at h
  rcases h with rfl | rfl | rfl | rfl | rfl | rfl <;>
  · simp only [atCall, hostOps, TRef.binary, TRef.nullary, TRef.unary, TRef.toBuf, TRef.ofBuf, cast_eq]
    after_results_simp <;> rfl

end Cert.Proof.Run

end
-- ==== Proof.Launch.lean ====
/-
  The whole program's run: the host's operations, then the call, which gives every tile its share of the operands and its
  rows of the result and takes them back written.
-/
module

public import proofs.«01_k».proof.Proof.Split
public import proofs.«01_k».proof.Proof.Host
public import Idealize.ShloMosaic.Lib.Pipeline.Frame

@[expose] public section

noncomputable section

namespace Cert.Proof.Run

open Cert.KernelIdeal Cert.KernelIdeal.Gen Cert.Proof.Search

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq)

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the call's arrays hold -/

/-- The coarse table when the call starts, -/
abbrev ctV (d : Dev nD) : Vec F S65536 .f32 := atCall m d (Proc.devRef .tc main_v19)
/-- the fine table, -/
abbrev cdV (d : Dev nD) : Vec F S62500x16 .f32 := atCall m d (Proc.devRef .tc main_v15)
/-- the queries, -/
abbrev uV (d : Dev nD) : Vec F S1000000 .f32 := atCall m d (Proc.devRef .tc main_arg5)
/-- the data, -/
abbrev xV (d : Dev nD) : Vec F S1000000x16 .f32 := atCall m d (Proc.devRef .tc main_arg0)
/-- and the result's buffer. -/
abbrev oV (d : Dev nD) : Vec F S1000000x16 .f32 := atCall m d (Proc.devRef .tc main_v20)
/-- What the call leaves in the result. -/
abbrev drawn (d : Dev nD) : Vec F S1000000x16 .f32 := picks (ctV m d) (cdV m d) (uV m d) (xV m d)

/-- What a tile takes, the result's rows at `f`. -/
abbrev tileDealt (d : Dev nD) (f : Vec F S1000000x16 .f32) (c : Fin 2) (i : Fin 16) : sProp 𝕄 :=
  dealt d (ctV m d) (cdV m d) (uV m d) (xV m d) f (i.val * 2 + c.val)

/-- A core's sequencer takes what its sixteen tiles take, and brings back what they bring back. -/
def P : (K (F := F)).Pay (nD := nD) (Val := Elt F) (Name := ℕ) (U := UU) where
  st := fun q d c => match q with | 0 => bigSep Finset.univ fun i : Fin 16 => tileDealt m d (oV m d) c i
  dn := fun q d c => match q with | 0 => bigSep Finset.univ fun i : Fin 16 => tileDealt m d (drawn m d) c i
  go := fun q d c i => match q with | 0 => tileDealt m d (oV m d) c i
  td := fun q d c i => match q with | 0 => tileDealt m d (drawn m d) c i
  x := fun _ _ => iprop(emp)

/-- All that is handed over can be stored. -/
instance : (P (F := F) m).IsStorable where
  st q d c := match q with
    | 0 => (inferInstance : BI.Storable (upEmb : UEmb _ 𝕄) (bigSep Finset.univ fun i : Fin 16 => tileDealt m d (oV m d) c i))
  dn q d c := match q with
    | 0 => (inferInstance : BI.Storable (upEmb : UEmb _ 𝕄) (bigSep Finset.univ fun i : Fin 16 => tileDealt m d (drawn m d) c i))
  go q d c i := match q with
    | 0 => (inferInstance : BI.Storable (upEmb : UEmb _ 𝕄) (tileDealt m d (oV m d) c i))
  td q d c i := match q with
    | 0 => (inferInstance : BI.Storable (upEmb : UEmb _ 𝕄) (tileDealt m d (drawn m d) c i))

/-! ## The tiles' obligation -/

/-- A tile runs the kernel's body at its own coordinates. -/
theorem defs₀_vector (c : Fin τ.nSC) (s : Fin τ.nSub) :
    defs₀ (F := F) (.scVector c s) 0 () = SparseCore.onTile hcore0 hsub0 (fun c s => bodyT (coordsV c s)) ⟨⟩ c s := rfl

omit [FloatOps F] in
/-- A wait that a task may have left is one the launch allows. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task runs from what it takes to what it brings back. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (ctV m d) (cdV m d) (uV m d) (xV m d) (share (i.val * 2 + c.val)) (oV m d) hF O W hO).trans
    (wp_mono frame _ _ fun _ => waits_weaken)

/-- What a core's sequencer takes is what its tiles take. -/
theorem vecSplit : (K (F := F)).VecSplit' (P m) 0 := by
  intro d c
  show (bigSep Finset.univ fun i : Fin 16 => tileDealt m d (oV m d) c i) ⊢ |={Set.univ}=> iprop(
      (bigSep Finset.univ fun i : Fin 16 => tileDealt m d (oV m d) c i)
      ∗ ((bigSep Finset.univ fun i : Fin 16 => tileDealt m d (drawn m d) c i) -∗ (bigSep Finset.univ fun i : Fin 16 => tileDealt m d (drawn m d) c i)))
  iintro H; imodintro
  isplitl [H]; · iexact H
  iintro H; iexact H

/-! ## The ghost state at launch -/

/-- The ghost state at the launch. -/
def u₀ : UU := (initOf (K (F := F)).hsCells (K (F := F)).hsToks, 1)

/-- It is the launch handshake's. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr)
      = (bigSep Finset.univ fun _ : Thread nD τ => iprop(emp)) :=
    bigSep_congr fun _ _ => bigSep_univ_of_subsingleton (0 : Fin 1)
  have he {I : Type} (s : Finset I) : (bigSep s fun _ => iprop(emp)) = (iprop(emp) : sProp 𝕄) := bigSep_emp_const s
  rw [hx, he, he]
  unfold u₀
  iintro Hu
  ihave ⟨HH, -⟩ := (ownU_pair (initOf (K (F := F)).hsCells (K (F := F)).hsToks) (1 : Counters)) $$ Hu
  imodintro
  isplitl [HH]; · iexact HH
  isplitr <;> iempintro

/-! ## The TensorCore's program -/

/-- The coarse table's buffer, -/
abbrev ct' : DevRef τ sig := Proc.devRef .tc main_v19
/-- the fine table's, -/
abbrev cd' : DevRef τ sig := Proc.devRef .tc main_v15
/-- the queries', -/
abbrev u' : DevRef τ sig := Proc.devRef .tc main_arg5
/-- the data's -/
abbrev x' : DevRef τ sig := Proc.devRef .tc main_arg0
/-- and the result's. -/
abbrev o' : DevRef τ sig := Proc.devRef .tc main_v20
/-- The call's five arrays. -/
abbrev S5 : Finset (DevRef τ sig) := {ct', cd', u', x', o'}

/-- They are among the buffers the TensorCore holds. -/
theorem S5_sub : S5 ⊆ Pipeline.ucRefs τ sig := by decide

omit [FloatOps F] in
/-- Holding them is holding the five arrays whole. -/
theorem held_S5 (d : Dev nD) (W : Valuation τ sig (Elt F)) :
    (held (SparseCore.T d) S5 W : sProp 𝕄) = whole5 d (W ct') (W cd') (W u') (W x') (W o') := by
  unfold held S5
  rw [SparseCore.bigSep_insert' (by decide), SparseCore.bigSep_insert' (by decide), SparseCore.bigSep_insert' (by decide),
    SparseCore.bigSep_insert' (by decide), bigSep_singleton]

/-- The memory of a device after the call. -/
abbrev atEnd (d : Dev nD) : Valuation τ sig (Elt F) := Function.update (atCall m d) o' (drawn m d)

/-- Only the result's buffer has changed, -/
theorem atEnd_ne (d : Dev nD) {b : DevRef τ sig} (h : b ≠ o') : atEnd m d b = atCall m d b := Function.update_of_ne h _ _
/-- and it holds the drawn rows. -/
theorem atEnd_o (d : Dev nD) : atEnd m d o' = drawn m d := Function.update_self _ _ _

/-- What the call starts from is every tile's share, the result's rows not yet drawn, -/
theorem st0_eq (d : Dev nD) : (bigSep Finset.univ fun c : Fin ((K (F := F)).nCore 0) => (P m).st 0 d c)
    = bigSep Finset.univ fun c : Fin 2 => bigSep Finset.univ fun i : Fin 16 => tileDealt m d (oV m d) c i := rfl
/-- and what it ends with is every tile's share with them drawn. -/
theorem dn0_eq (d : Dev nD) : (bigSep Finset.univ fun c : Fin ((K (F := F)).nCore 0) => (P m).dn 0 d c)
    = bigSep Finset.univ fun c : Fin 2 => bigSep Finset.univ fun i : Fin 16 => tileDealt m d (drawn m d) c i := rfl

/-- All of the TensorCore's memory at the end. -/
abbrev FIN (d : Dev nD) : sProp 𝕄 := held (SparseCore.T d) (Pipeline.ucRefs τ sig) (atEnd m d)

/-- The TensorCore's program runs the host's operations and the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  iintro ⟨#Hctx, Hst, ⟨Hb, Hbufs, Hts, -⟩, -⟩
  ihave Hheld := (Entails.of_eq (Pipeline.unscopedBufs_held d (StableHlo.launchContents m d))) $$ Hbufs
  iapply (wp_seq 𝒱 none Set.univ d (Pipeline.ucRefs τ sig) _ hostOps
    (fun op ho => Pipeline.sub_ucRefs op (List.forall_iff_forall_mem.1 hostOps_sub op ho)) hostOps_fresh (StableHlo.launchContents m d)) $$ [Hb Hheld]
  · isplitl [Hb]; · iexact Hb
    iexact Hheld
  iintro ⟨Hb, Hheld⟩
  ihave ⟨H5, Hrest⟩ := (Entails.of_eq (held_sub_split (SparseCore.T d) S5_sub (atCall m d))) $$ Hheld
  ihave H5 := (Entails.of_eq ((held_S5 d (atCall m d)).trans (deal d (ctV m d) (cdV m d) (uV m d) (xV m d) (oV m d)))) $$ H5
  icases H5 with ⟨Hgo, Hkept⟩
  simp only [wp_bind, wp_pure]
  iapply ((K (F := F)).wp_run (D (F := F)) 𝒱 (EH := EH) (P := P m) κ d 0) $$ [Hst Hgo Hkept Hrest Hb Hts]
  isplitr; · iexact Hctx
  isplitl [Hst]; · iexact Hst
  isplitl [Hgo]
  · rw [st0_eq]; iexact Hgo
  iintro ⟨Hst, Hdn⟩
  ihave Hdn := (Entails.of_eq (dn0_eq m d)) $$ Hdn
  ihave H5 := (Entails.of_eq (deal d (ctV m d) (cdV m d) (uV m d) (xV m d) (drawn m d)).symm) $$ [Hdn Hkept]
  · isplitl [Hdn] <;> iassumption
  imodintro
  isplitl [Hst]; · iexact Hst
  isplitr [Hb Hts]
  · unfold FIN
    rw [held_sub_split (SparseCore.T d) S5_sub (atEnd m d), held_S5, atEnd_o,
      atEnd_ne m d (show ct' ≠ o' by decide), atEnd_ne m d (show cd' ≠ o' by decide), atEnd_ne m d (show u' ≠ o' by decide), atEnd_ne m d (show x' ≠ o' by decide),
      held_congr (SparseCore.T d) (V := atEnd m d) (V' := atCall m d) (fun b hb => atEnd_ne m d fun e =>
        (Finset.mem_sdiff.1 hb).2 (e ▸ (show o' ∈ S5 by decide)))]
    isplitl [H5]; · iexact H5
    iexact Hrest
  isplitl [Hb] <;> iassumption

/-! ## The run -/

/-- Every buffer of the device holds what it should at the end. -/
def fq (d : Dev nD) (s' : Phys nD τ sig (Elt F)) : Prop := ∀ b ∈ Pipeline.ucRefs τ sig, s'.mem.mem (d, b) = atEnd m d b

/-- Holding all of the memory at the end tells what the buffers hold. -/
theorem hfin (d : Dev nD) (s' : Phys nD τ sig (Elt F)) : iprop(FIN m d ∗ SI s') ⊢ (⌜fq m d s'⌝ : sProp 𝕄) := by
  unfold FIN held
  iintro ⟨H, HSI⟩
  iapply (SI_pointsTo_bufs_agree (st := s') (c := d) (qs := fun _ => fullShare) (F := atEnd m d) (Pipeline.ucRefs τ sig))
  isplitl [HSI] <;> iassumption

/-- What the run ends in: every buffer holds what it should and every semaphore is at zero. -/
def QC : PUnit × MemSt nD τ sig (Elt F) → Prop := fun r =>
  (∀ d : Dev nD, ∀ b ∈ Pipeline.ucRefs τ sig, r.2.mem (d, b) = atEnd m d b) ∧ r.2.sem = fun _ => 0

/-- From any memory the program ends so. -/
theorem run_all [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-- From any memory the program ends, the result holds the drawn rows, the arguments are as they were, and every semaphore is at zero. -/
theorem run_main [∀ e, Nonempty (Elt F e)] :
    θ_run (Cert.KernelIdeal.defs (F := F)) (Cert.KernelIdeal.threads (F := F)) ⟨m, fun _ => 0, ρ⟩ fun r =>
      (∀ d : Dev nD,
        r.2.mem ((d.tc : Thread nD τ).loc main_v20)
          = picks (coarseOf (cdf m d)) (fineOf (cdf m d)) (m ((d.tc : Thread nD τ).loc main_arg5)) (m ((d.tc : Thread nD τ).loc main_arg0))
        ∧ r.2.mem ((d.tc : Thread nD τ).loc main_arg0) = m ((d.tc : Thread nD τ).loc main_arg0)
        ∧ r.2.mem ((d.tc : Thread nD τ).loc main_arg1) = m ((d.tc : Thread nD τ).loc main_arg1)
        ∧ r.2.mem ((d.tc : Thread nD τ).loc main_arg2) = m ((d.tc : Thread nD τ).loc main_arg2)
        ∧ r.2.mem ((d.tc : Thread nD τ).loc main_arg3) = m ((d.tc : Thread nD τ).loc main_arg3)
        ∧ r.2.mem ((d.tc : Thread nD τ).loc main_arg4) = m ((d.tc : Thread nD τ).loc main_arg4)
        ∧ r.2.mem ((d.tc : Thread nD τ).loc main_arg5) = m ((d.tc : Thread nD τ).loc main_arg5))
      ∧ r.2.sem = fun _ => 0 := by
  refine (θ_run Cert.KernelIdeal.defs _ _).mono (fun r h => ⟨fun d => ?_, h.2⟩) (run_all m ρ)
  have arg (b : Ref sig .tc) (hb : b ∈ ([main_arg0, main_arg1, main_arg2, main_arg3, main_arg4, main_arg5] : List (Ref sig .tc)))
      (hu : (Proc.devRef .tc b : DevRef τ sig) ∈ Pipeline.ucRefs τ sig) (hne : (Proc.devRef .tc b : DevRef τ sig) ≠ o') :
      r.2.mem ((d.tc : Thread nD τ).loc b) = m ((d.tc : Thread nD τ).loc b) :=
    (h.1 d _ hu).trans ((atEnd_ne m d hne).trans (atCall_args m d b hb))
  refine ⟨(h.1 d o' (by decide)).trans ((atEnd_o m d).trans ?_), arg main_arg0 (by simp) (by decide) (by decide),
    arg main_arg1 (by simp) (by decide) (by decide), arg main_arg2 (by simp) (by decide) (by decide),
    arg main_arg3 (by simp) (by decide) (by decide), arg main_arg4 (by simp) (by decide) (by decide), arg main_arg5 (by simp) (by decide) (by decide)⟩
  show picks (ctV m d) (cdV m d) (uV m d) (xV m d) = _
  rw [show ctV m d = _ from atCall_coarse m d, show cdV m d = _ from atCall_fine m d,
    show uV m d = _ from atCall_args m d main_arg5 (by simp), show xV m d = _ from atCall_args m d main_arg0 (by simp)]

end Cert.Proof.Run

end
-- ==== Proof.Count.lean ====
/-
  On sorted tables the two searches find what a plain count finds: the coarse search ends at the number of coarse
  entries below the query, and the row drawn is the number of running sums below it, cut off at the last row.
-/
module

public import proofs.«01_k».proof.Proof.Search
public import Idealize.ShloMosaic.Lib.Routing.Count

@[expose] public section

noncomputable section

namespace Cert.Proof.Search

open Cert.KernelIdeal
open Idealize.ShloMosaic Idealize.ShloMosaic.ValueIdx
open Idealize.ShloMosaic.Routing (lt_count_iff)

variable {F : FTy → Type} [FloatOps F]

/-- The count kept step by step is the number of entries below the query. -/
theorem cnt_eq_count (row : ℕ → F .f32) (u : F .f32) : ∀ k, cnt row u k = Nat.count (fun i => Below (row i) u) k
  | 0 => rfl
  | k + 1 => by rw [cnt, cnt_eq_count row u k, Nat.count_succ]

/-- While the entries below the query come first in the coarse table, the search keeps their number (or the last index, if
    they are all below) between its position and the end of the stretch still to be searched. -/
theorem coarse_bracket (ct : Vec F S65536 .f32) (u : F .f32)
    (hct : ∀ a b, a ≤ b → b < 65536 → Below (ct (tabIx b)) u → Below (ct (tabIx a)) u) : ∀ l, l ≤ 16 →
    coarse ct u l ≤ min (Nat.count (fun b => Below (ct (tabIx b)) u) 65536) 65535
      ∧ min (Nat.count (fun b => Below (ct (tabIx b)) u) 65536) 65535 < coarse ct u l + 2 ^ (16 - l)
  | 0, _ => by simp only [coarse]; omega
  | l + 1, h => by
    have ih := coarse_bracket ct u hct l (by omega)
    have hle := coarse_add_le ct u l (by omega)
    have e : 2 ^ (16 - l) = 2 ^ (15 - l) + 2 ^ (15 - l) := by
      rw [show 16 - l = (15 - l) + 1 by omega, pow_succ]; omega
    have h0 : 0 < 2 ^ (15 - l) := by positivity
    have hr : coarse ct u l + 2 ^ (15 - l) - 1 < 65536 := by omega
    have hm := lt_count_iff hct hr
    rw [show 16 - (l + 1) = 15 - l by omega, coarse]
    split <;> rename_i hb <;> rw [hm] at hb <;> omega

/-- So it ends at the number of coarse entries below the query, or at the last index. -/
theorem coarse_eq_count (ct : Vec F S65536 .f32) (u : F .f32)
    (hct : ∀ a b, a ≤ b → b < 65536 → Below (ct (tabIx b)) u → Below (ct (tabIx a)) u) :
    coarse ct u 16 = min (Nat.count (fun b => Below (ct (tabIx b)) u) 65536) 65535 := by
  have := coarse_bracket ct u hct 16 le_rfl
  simp only [Nat.sub_self, pow_zero] at this
  omega

/-- The row drawn. `Q j` says that running sum `j` is below the query; it holds of the first so many sums. The fine table
    holds the sums in blocks of sixteen and the coarse table starts with the last sum of each block. -/
theorem pos_eq_count (ct : Vec F S65536 .f32) (cd : Vec F S62500x16 .f32) (u : F .f32) (Q : ℕ → Prop) [DecidablePred Q]
    (hQ : ∀ a b, a ≤ b → b < 1000000 → Q b → Q a)
    (hct : ∀ a b, a ≤ b → b < 65536 → Below (ct (tabIx b)) u → Below (ct (tabIx a)) u)
    (hends : ∀ b, b < 62500 → (Below (ct (tabIx b)) u ↔ Q (b * 16 + 15)))
    (hcd : ∀ b k, b < 62500 → k < 16 → (Below (cd (blkIx b k)) u ↔ Q (b * 16 + k))) :
    pos ct cd u = min (Nat.count Q 1000000) 999999 := by
  have hb := blk_le ct u
  have hblk : blk ct u = min (Nat.count (fun b => Below (ct (tabIx b)) u) 65536) 62499 := by
    rw [blk, coarse_eq_count ct u hct]; omega
  -- a block's last sum is below the query exactly when the block lies before the number of such blocks
  have hends' : ∀ b, b < 62500 → (b < Nat.count (fun b => Below (ct (tabIx b)) u) 65536 ↔ b * 16 + 15 < Nat.count Q 1000000) := fun b hb => by
    rw [← lt_count_iff hct (by omega), hends b hb, lt_count_iff hQ (by omega)]
  -- within the block, the count
  have hcnt : ∀ k, k < 16 → (blk ct u * 16 + k < Nat.count Q 1000000 ↔ k < cnt (fun k => cd (blkIx (blk ct u) k)) u 16) := fun k hk => by
    rw [cnt_eq_count, ← lt_count_iff hQ (by omega), ← hcd _ _ (by omega) hk]
    refine lt_count_iff (Q := fun k => Below (cd (blkIx (blk ct u) k)) u) (fun a b hab hb' => ?_) hk
    rw [hcd _ _ (by omega) hb', hcd _ _ (by omega) (by omega)]
    exact hQ _ _ (by omega) (by omega)
  have hc16 := cnt_le (fun k => cd (blkIx (blk ct u) k)) u 16
  have hM : Nat.count Q 1000000 ≤ 1000000 := Nat.count_le _
  rw [pos]
  generalize cnt (fun k => cd (blkIx (blk ct u) k)) u 16 = c at hcnt hc16 ⊢
  generalize blk ct u = j at hcnt hblk hb ⊢
  generalize Nat.count (fun b => Below (ct (tabIx b)) u) 65536 = B at hblk hends'
  generalize Nat.count Q 1000000 = M at hcnt hends' hM ⊢
  have h0 : 16 * j ≤ M := by
    rcases Nat.eq_zero_or_pos j with h | h
    · omega
    · have := (hends' (j - 1) (by omega)).1 (by omega)
      omega
  have h1 : M ≤ 16 * j + 16 := by
    rcases Nat.lt_or_ge B 62500 with h | h
    · have := (hends' j (by omega)).not.1 (by omega)
      omega
    · omega
  have h2 : 16 * j + c = M := by
    rcases Nat.lt_trichotomy (16 * j + c) M with h | h | h
    · have := (hcnt c (by omega)).1 (by omega)
      omega
    · exact h
    · have := (hcnt (M - 16 * j) (by omega)).2 (by omega)
      omega
  omega

end Cert.Proof.Search

end
-- ==== Proof.Cdf.lean ====
/-
  Over extended reals the running sums of the normalised weights never fall and never pass 2. The two cases that are not
  plain division are looked at separately: a total of zero makes every quotient, and every running sum, the least
  extended real; an infinite total makes every quotient zero.
-/
module

public import proofs.«01_k».proof.Proof.Host
public import Idealize.ShloMosaic.PureOps.Ideal
public import Idealize.ShloMosaic.PureOps.Ideal.Laws
public import Idealize.ShloMosaic.Lib.Routing.Ops

@[expose] public section

noncomputable section

namespace Cert.Proof.Run

open Cert.KernelIdeal Cert.KernelIdeal.Gen
open Idealize.ShloMosaic Idealize.ShloMosaic.ValueIdx
open Idealize.ShloMosaic.Routing (shape1 numel1 symm1 bc0)

/-- Entry `k` of a vector of a million, the last one if `k` is past the end. -/
abbrev sumIx (k : ℕ) : S1000000.Idx := ix1 (⟨min k 999999, by omega⟩ : Fin 1000000)

/-! ## Sums of extended reals -/

/-- Nonnegative terms times one factor: the sum times it. -/
theorem sum_mul_right (s : Finset ℕ) (f : ℕ → EReal) (c : EReal) (hf : ∀ i, 0 ≤ f i) :
    ∑ i ∈ s, f i * c = (∑ i ∈ s, f i) * c := by
  classical
  induction s using Finset.induction_on with
  | empty => simp
  | insert a s ha ih => rw [Finset.sum_insert ha, Finset.sum_insert ha, ih, EReal.right_distrib_of_nonneg (hf a) (Finset.sum_nonneg fun i _ => hf i)]

/-- A nonnegative number times its inverse is at most one. -/
theorem mul_inv_le_one (S : EReal) (h : 0 ≤ S) : S * S⁻¹ ≤ 1 := by
  induction S with
  | bot => exact absurd h (by simp)
  | top => simp
  | coe r =>
    rw [← EReal.coe_inv, ← EReal.coe_mul]
    exact_mod_cast mul_inv_le_one_of_le₀ le_rfl (EReal.coe_nonneg.1 h)

/-- Quotients of nonnegative numbers by their total: the sums of the first `j + 1` of them never fall as `j` grows and never
    pass 1. -/
theorem partial_sums (N : ℕ) (f : ℕ → EReal) (hf : ∀ i, 0 ≤ f i) :
    (∀ a b, a ≤ b → b < N → ∑ i ∈ Finset.range (a + 1), Ideal.div (f i) (∑ i ∈ Finset.range N, f i) ≤ ∑ i ∈ Finset.range (b + 1), Ideal.div (f i) (∑ i ∈ Finset.range N, f i))
      ∧ ∀ a, a < N → ∑ i ∈ Finset.range (a + 1), Ideal.div (f i) (∑ i ∈ Finset.range N, f i) ≤ 1 := by
  by_cases h : ∑ i ∈ Finset.range N, f i = 0
  · have hz : ∀ a, a < N → ∑ i ∈ Finset.range (a + 1), Ideal.div (f i) (∑ i ∈ Finset.range N, f i) = ⊥ := fun a ha => by
      have : f a = 0 := (Finset.sum_eq_zero_iff_of_nonneg fun i _ => hf i).1 h a (Finset.mem_range.2 ha)
      rw [Finset.sum_range_succ, h, this]
      simp [Ideal.div]
    exact ⟨fun a b hab hb => by rw [hz a (by omega), hz b hb], fun a ha => by rw [hz a ha]; exact bot_le⟩
  · have hS : 0 ≤ ∑ i ∈ Finset.range N, f i := Finset.sum_nonneg fun i _ => hf i
    have hd : ∀ i, Ideal.div (f i) (∑ i ∈ Finset.range N, f i) = f i * (∑ i ∈ Finset.range N, f i)⁻¹ := fun i => if_neg h
    have hn : ∀ i, 0 ≤ f i * (∑ i ∈ Finset.range N, f i)⁻¹ := fun i => mul_nonneg (hf i) (EReal.inv_nonneg_of_nonneg hS)
    simp only [hd]
    refine ⟨fun a b hab _ => ?_, fun a ha => ?_⟩
    · exact Finset.sum_le_sum_of_subset_of_nonneg (Finset.range_mono (by omega)) fun i _ _ => hn i
    · refine (Finset.sum_le_sum_of_subset_of_nonneg (Finset.range_mono (by omega : a + 1 ≤ N)) fun i _ _ => hn i).trans ?_
      rw [sum_mul_right _ _ _ hf]
      exact mul_inv_le_one _ hS

/-! ## The host's two sums -/

/-- Adding up a list one term at a time, from the left, gives the list's sum on top of what it started from. -/
theorem foldl_add_eq {ι : Type} (g : ι → EReal) (l : List ι) (z : EReal) : l.foldl (fun r a => r + g a) z = z + (l.map g).sum := by
  induction l generalizing z with
  | nil => simp
  | cons a l ih => rw [List.foldl_cons, ih, List.map_cons, List.sum_cons, add_assoc]

/-- The host's total of a million numbers is their sum. -/
theorem total_eq (w : Vec Ideal S1000000 .f32) (j : S_.Idx) :
    (Host.reduceAdd (F := Ideal) (φ := .f32) w (constant S_ .f32 0x00000000#32) reducesTo_S1000000_S_d0 h_S_ j : EReal) = ∑ i ∈ Finset.range 1000000, w (sumIx i) := by
  show Ideal.ofBits .f32 0x00000000#32 + ∑ i ∈ Finset.univ.filter (fun i : S1000000.Idx => reducesTo_S1000000_S_d0.drop i = j), w i = _
  rw [Ideal.ofBits_zero_f32, zero_add, Finset.filter_true_of_mem fun i _ => funext fun a => a.elim0, ← Fin.sum_univ_eq_sum_range (fun i => w (sumIx i)) 1000000]
  refine (Fintype.sum_equiv ((finCongr (numel1 1000000).symm).trans S1000000.rowMajor.symm) _ _ fun i => congrArg w ?_).symm
  refine Eq.trans ?_ (symm1 (N := 1000000) _).symm
  exact congrArg ix1 (Fin.ext (by show min i.val 999999 = i.val; omega))

/-- The host's running sums: entry `j` is the sum of the first `j + 1` numbers. -/
theorem running_eq (n : Vec Ideal S1000000 .f32) (j : Fin 1000000) :
    (Host.reduceWindowAdd (F := Ideal) (φ := .f32) ![1000000] ![1] ![999999] ![0] n (broadcastInDim S_ ![] bcast_S_S_ (constant S_ .f32 0x00000000#32))
      reduceWindows_S1000000_S1000000_w1000000s1p999999_0 h_S_ (ix1 j) : EReal) = ∑ i ∈ Finset.range (j.val + 1), n (sumIx i) := by
  have hz : broadcastInDim S_ ![] bcast_S_S_ (constant (F := Ideal) S_ .f32 0x00000000#32) (Shape.Idx.first h_S_) = (0 : EReal) := Ideal.ofBits_zero_f32
  rw [Host.reduceWindowAdd, Ideal.hostReduceWindowAdd_def, hz]
  unfold Ideal.hostReduceWindowAdd Host.reduceWindow
  dsimp only
  rw [foldl_add_eq, zero_add, ← Fin.sum_univ_def]
  -- position `k` of the window reads entry `j + k - 999999`, or padding
  refine (Finset.sum_congr rfl fun k _ => ?_).trans
    ((Fin.sum_univ_eq_sum_range (fun k => if 999999 ≤ j.val + k then n (sumIx (j.val + k - 999999)) else 0) _).trans ?_)
  · have hk : ((shape1 1000000).rowMajor.symm k 0).val = k.val := by rw [symm1]; rfl
    have hk' : k.val < 1000000 := (k.cast (numel1 _)).isLt
    split
    · next h =>
      have h0 := h 0
      change 999999 ≤ j.val * 1 + ((shape1 1000000).rowMajor.symm k 0).val ∧ _ at h0
      rw [hk] at h0
      rw [if_pos (by omega)]
      refine congrArg n (funext fun a => Fin.ext ?_)
      match a with
      | ⟨0, _⟩ =>
        show j.val * 1 + ((shape1 1000000).rowMajor.symm k 0).val - 999999 = min (j.val + k.val - 999999) 999999
        rw [hk]; omega
    · next h =>
      rw [if_neg fun hle => h fun a => ?_]
      match a with
      | ⟨0, _⟩ =>
        show 999999 ≤ j.val * 1 + ((shape1 1000000).rowMajor.symm k 0).val ∧ j.val * 1 + ((shape1 1000000).rowMajor.symm k 0).val - 999999 < 1000000
        rw [hk]; omega
  · have hj := j.isLt
    have hW : (⟨S1000000.rank, ![1000000]⟩ : Shape).numel = 1000000 := numel1 1000000
    rw [hW, ← Finset.sum_filter]
    have hI : (Finset.range 1000000).filter (fun k => 999999 ≤ j.val + k) = Finset.Ico (999999 - j.val) 1000000 := by
      ext k; simp only [Finset.mem_filter, Finset.mem_range, Finset.mem_Ico]; omega
    rw [hI, Finset.sum_Ico_eq_sum_range, show 1000000 - (999999 - j.val) = j.val + 1 by omega]
    exact Finset.sum_congr rfl fun i _ => congrArg (fun q => n (sumIx q)) (by omega)

/-! ## The running sums of the weights -/

/-- An exponential is not negative, at the infinities either. -/
theorem exp_nonneg (x : EReal) : 0 ≤ Ideal.exp x := by
  induction x with
  | bot => exact le_rfl
  | top => exact le_top
  | coe r => exact EReal.coe_nonneg.2 (Real.exp_pos r).le

/-- The running sums as partial sums of quotients. -/
theorem cdfOf_eq (w : Vec Ideal S1000000 .f32) (j : Fin 1000000) :
    cdfOf w (ix1 j) = ∑ i ∈ Finset.range (j.val + 1), Ideal.div (w (sumIx i)) (∑ i ∈ Finset.range 1000000, w (sumIx i)) := by
  rw [cdfOf, running_eq]
  refine Finset.sum_congr rfl fun i _ => ?_
  rw [Host.divf, Ideal.hostDivf_def]
  exact congrArg (Ideal.div (w (sumIx i))) ((bc0 _ _ _).trans (total_eq w ix0))

/-- Of nonnegative weights they never fall, -/
theorem cdfOf_mono (w : Vec Ideal S1000000 .f32) (hw : ∀ i, 0 ≤ w i) {a b : Fin 1000000} (h : a ≤ b) : cdfOf w (ix1 a) ≤ cdfOf w (ix1 b) := by
  rw [cdfOf_eq, cdfOf_eq]
  exact (partial_sums 1000000 (fun i => w (sumIx i)) fun i => hw _).1 a.val b.val h b.isLt

/-- and never pass one. -/
theorem cdfOf_le_one (w : Vec Ideal S1000000 .f32) (hw : ∀ i, 0 ≤ w i) (a : Fin 1000000) : cdfOf w (ix1 a) ≤ (1 : EReal) := by
  rw [cdfOf_eq]
  exact (partial_sums 1000000 (fun i => w (sumIx i)) fun i => hw _).2 a.val a.isLt

/-- The weights, being exponentials, are not negative. -/
theorem weights_nonneg (x : Vec Ideal S1000000x16 .f32) (W1 : Vec Ideal S16x64 .f32) (b1 : Vec Ideal S64 .f32) (W2 : Vec Ideal S64x1 .f32)
    (b2 : Vec Ideal S1 .f32) (i : S1000000.Idx) : (0 : EReal) ≤ weights x W1 b1 W2 b2 i := exp_nonneg _

end Cert.Proof.Run

end
-- ==== Proof.Tables.lean ====
/-
  The two tables the kernel searches, read entry by entry as running sums, and the row it draws: over extended reals, the
  number of running sums below the query, cut off at the last row.
-/
module

public import proofs.«01_k».proof.Proof.Count
public import proofs.«01_k».proof.Proof.Cdf
public import Idealize.ShloMosaic.Lib.Pipeline.Value

@[expose] public section

noncomputable section

namespace Cert.Proof.Run

open Cert.KernelIdeal Cert.KernelIdeal.Gen Cert.Proof.Search
open Idealize.ShloMosaic Idealize.ShloMosaic.ValueIdx
open Idealize.ShloMosaic.Routing (cast12 cast21)

section Reads

variable {F : FTy → Type} [FloatOps F]

/-- Entry `k` of block `b` of the fine table is running sum `16 b + k`. -/
theorem fineOf_read (c : Vec F S1000000 .f32) {b k : ℕ} (hb : b < 62500) (hk : k < 16) : fineOf c (blkIx b k) = c (sumIx (b * 16 + k)) :=
  cast12 (a := 62500) (b := 16) c shapeCasts_S1000000_S62500x16 _ _ _ (by
    show min (b * 16 + k) 999999 = min b 62499 * 16 + k % 16
    omega)

/-- The last column of the blocks, as a vector, holds the last running sum of each block. -/
theorem ends_read (c : Vec F S1000000 .f32) {b : ℕ} (hb : b < 62500) :
    shapeCast S62500 (extractStridedSlice S62500x1 ![0, 15] (fineOf c) slices_S62500x16_S62500x1_0_15) shapeCasts_S62500x1_S62500 (ix1 (⟨b, hb⟩ : Fin 62500))
      = c (sumIx (b * 16 + 15)) := by
  have h1 : extractStridedSlice S62500x1 ![0, 15] (fineOf c) slices_S62500x16_S62500x1_0_15 (ix2 (⟨b, hb⟩ : Fin 62500) (0 : Fin 1)) = fineOf c (blkIx b 15) :=
    extractStridedSlice_apply (s := S62500x16) (t := S62500x1) ![0, 15] (fineOf c) slices_S62500x16_S62500x1_0_15
      (ix2 (⟨b, hb⟩ : Fin 62500) (0 : Fin 1)) (blkIx b 15) fun a => by
        match a with
        | ⟨0, _⟩ => show min b 62499 = 0 + b; omega
        | ⟨1, _⟩ => rfl
  have h2 := cast21 (a := 62500) (b := 1) (extractStridedSlice S62500x1 ![0, 15] (fineOf c) slices_S62500x16_S62500x1_0_15)
    shapeCasts_S62500x1_S62500 (⟨b, hb⟩ : Fin 62500) (0 : Fin 1) ⟨b, hb⟩ (by show b = b * 1 + 0; omega)
  exact (h2.trans h1).trans (fineOf_read c hb (by omega))

/-- Below 62500 the coarse table's entry is the last running sum of a block, -/
theorem coarseOf_read (c : Vec F S1000000 .f32) {b : ℕ} (hb : b < 62500) : coarseOf c (tabIx b) = c (sumIx (b * 16 + 15)) :=
  (concatenate_pair_apply_left (t := S65536) (s₁ := S62500) (s₂ := S3036) (0 : Fin 1) _ _ concatenates_S62500_S3036_S65536_d0 (tabIx b) rfl
    (ix1 (⟨b, hb⟩ : Fin 62500)) fun a => by
      match a with
      | ⟨0, _⟩ => show b = min b 65535; omega).trans (ends_read c hb)

/-- and from 62500 on it is the constant 2. -/
theorem coarseOf_pad (c : Vec F S1000000 .f32) {b : ℕ} (hb : 62500 ≤ b) (hb' : b < 65536) :
    coarseOf c (tabIx b) = FloatOps.ofBits (F := F) .f32 0x40000000#32 :=
  concatenate_pair_apply_right (t := S65536) (s₁ := S62500) (s₂ := S3036) (0 : Fin 1) _ _ concatenates_S62500_S3036_S65536_d0 (tabIx b) rfl rfl
    (ix1 (⟨b - 62500, by omega⟩ : Fin 3036)) (fun a ha => absurd (Subsingleton.elim (α := Fin 1) _ _) ha)
    (by show b - 62500 + 62500 = min b 65535; omega)

end Reads

/-- The padding is the number two. -/
theorem pad_two : FloatOps.ofBits (F := Ideal) .f32 0x40000000#32 = (2 : EReal) := by
  show Ideal.ofBits .f32 0x40000000#32 = _
  simp [Ideal.ofBits, Ideal.ieee]
  rw [← EReal.coe_mul]
  norm_num
  rfl

/-- Over extended reals "below" is the order. -/
theorem below_iff (a b : EReal) : Below (F := Ideal) a b ↔ a < b := by
  show BitVec.ofBool (decide (a < b)) = 1 ↔ a < b
  by_cases h : a < b <;> simp [h]

/-- The row drawn for a query, from running sums of nonnegative weights: how many sums are below the query, cut off at the last row. -/
theorem pos_sums (w : Vec Ideal S1000000 .f32) (hw : ∀ i, (0 : EReal) ≤ w i) (u : Ideal .f32) :
    pos (coarseOf (cdfOf w)) (fineOf (cdfOf w)) u = min (Nat.count (fun j => Below (cdfOf w (sumIx j)) u) 1000000) 999999 := by
  have hm : ∀ a b, a ≤ b → (cdfOf w (sumIx a) : EReal) ≤ cdfOf w (sumIx b) := fun a b h => cdfOf_mono w hw (by show min a 999999 ≤ min b 999999; omega)
  have h2 : ∀ a, (cdfOf w (sumIx a) : EReal) ≤ 2 := fun a => (cdfOf_le_one w hw _).trans (by norm_num)
  refine pos_eq_count _ _ u _ (fun a b h _ hb => ?_) (fun a b h hb' hb => ?_) (fun b hb => by rw [coarseOf_read _ hb])
    (fun b k hb hk => by rw [fineOf_read _ hb hk])
  · rw [below_iff] at hb ⊢
    exact (hm a b h).trans_lt hb
  · rw [below_iff] at hb ⊢
    refine lt_of_le_of_lt ?_ hb
    rcases Nat.lt_or_ge a 62500 with ha | ha
    · rw [coarseOf_read _ ha]
      rcases Nat.lt_or_ge b 62500 with hb'' | hb''
      · rw [coarseOf_read _ hb'']
        exact hm _ _ (by omega)
      · rw [coarseOf_pad _ hb'' hb', pad_two]
        exact h2 _
    · rw [coarseOf_pad _ ha (by omega), coarseOf_pad _ (ha.trans h) hb']

end Cert.Proof.Run

end
-- ==== Proof.Drawn.lean ====
/-
  The reference read entry by entry: it counts, for each query, the running sums below it, cuts the count off at the last
  row and takes that row of the data. So it draws what the kernel draws.
-/
module

public import proofs.«01_k».proof.Proof.Tables
public import proofs.«01_k».proof.Proof.Chunk
public import proofs.«01_k».proof.Proof.Gen.ReferenceIdeal
public import proofs.«01_k».proof.Proof.Gen.ReferenceIdeal.Run
public import Idealize.ShloMosaic.Lib.Routing.OpsSearch

@[expose] public section

noncomputable section

namespace Cert.Proof.Run

open Cert.ReferenceIdeal Cert.ReferenceIdeal.Gen Cert.Proof.Search
open Idealize.ShloMosaic Idealize.ShloMosaic.TcCoe Idealize.ShloMosaic.ValueIdx
open Idealize.ShloMosaic.Routing (bc0 bcCol bcRows bcCols reduce_count clip_word slt_ofNat32)

variable {F : FTy → Type} [FloatOps F]

/-- The reference's count of running sums below each query, cut off at the last row. -/
def tally (c u : Vec F S1000000 .f32) : IVec S1000000 32 :=
  minsi (broadcastInDim S1000000 ![] bcast_S_S1000000 (id (constantI S_ 32 999999#32)))
    (maxsi (broadcastInDim S1000000 ![] bcast_S_S1000000 (id (constantI S_ 32 0#32)))
      (Host.reduce IntOp.addi
        (extui 32 (cmpf .olt
            (broadcastInDim S1000000x1000000 ![0, 1] bcast_S1x1000000_S1000000x1000000_0_1 (broadcastInDim S1x1000000 ![1] bcast_S1000000_S1x1000000_1 c))
            (broadcastInDim S1000000x1000000 ![0, 1] bcast_S1000000x1_S1000000x1000000_0_1 (broadcastInDim S1000000x1 ![0] bcast_S1000000_S1000000x1_0 u)))
          natLt_1_32)
        (constantI S_ 32 0#32) reducesTo_S1000000x1000000_S1000000_d1 h_S_))

/-- The rows it takes: those the counts name. A negative count would be read from the end. -/
def taking (c u : Vec F S1000000 .f32) (x : Vec F S1000000x16 .f32) : Vec F S1000000x16 .f32 :=
  Host.gather gather_S1000000x16_S1000000x1_S1000000x16_1_0_n_n_0_1_116 x
    (broadcastInDim S1000000x1 ![0] bcast_S1000000_S1000000x1_0
      (select (cmpi .slt (tally c u) (broadcastInDim S1000000 ![] bcast_S_S1000000 (constantI S_ 32 0#32)))
        (addi (tally c u) (broadcastInDim S1000000 ![] bcast_S_S1000000 (constantI S_ 32 1000000#32))) (tally c u)))

set_option maxRecDepth 8192 in
/-- The reference's result is those rows, at the running sums of its weights. -/
theorem result_eq (m : (ℓ : Loc nD τ sig) → Buf (Elt F) ℓ) (d : Dev nD) :
    Cert.ReferenceIdeal.Value.res_main_v29 m d
      = taking (cdfOf (weights (m ((d.tc : Thread nD τ).loc main_arg0)) (m ((d.tc : Thread nD τ).loc main_arg1)) (m ((d.tc : Thread nD τ).loc main_arg2))
          (m ((d.tc : Thread nD τ).loc main_arg3)) (m ((d.tc : Thread nD τ).loc main_arg4))))
        (m ((d.tc : Thread nD τ).loc main_arg5)) (m ((d.tc : Thread nD τ).loc main_arg0)) := by
  rfl

/-- One query's count. -/
theorem tally_read (c u : Vec F S1000000 .f32) (q : Fin 1000000) :
    tally c u (ix1 q) = BitVec.ofNat 32 (min (Nat.count (fun j => Below (c (sumIx j)) (u (ix1 q))) 1000000) 999999) := by
  have hc : Host.reduce IntOp.addi
      (extui 32 (cmpf .olt
          (broadcastInDim S1000000x1000000 ![0, 1] bcast_S1x1000000_S1000000x1000000_0_1 (broadcastInDim S1x1000000 ![1] bcast_S1000000_S1x1000000_1 c))
          (broadcastInDim S1000000x1000000 ![0, 1] bcast_S1000000x1_S1000000x1000000_0_1 (broadcastInDim S1000000x1 ![0] bcast_S1000000_S1000000x1_0 u)))
        natLt_1_32)
      (constantI S_ 32 0#32) reducesTo_S1000000x1000000_S1000000_d1 h_S_ (ix1 q)
      = BitVec.ofNat 32 (Nat.count (fun j => Below (c (sumIx j)) (u (ix1 q))) 1000000) :=
    reduce_count (n := 1000000) (m := 1000000) (by norm_num) _ natLt_1_32 reducesTo_S1000000x1000000_S1000000_d1 h_S_ q _ fun j => by
      have h1 : broadcastInDim S1000000x1000000 ![0, 1] bcast_S1x1000000_S1000000x1000000_0_1
          (broadcastInDim S1x1000000 ![1] bcast_S1000000_S1x1000000_1 c) (ix2 q j) = c (sumIx j.val) :=
        (bcCols (n := 1000000) (m := 1000000) _ _ c q j).trans (congrArg c (congrArg ix1 (Fin.ext (by show j.val = min j.val 999999; omega))))
      have h2 : broadcastInDim S1000000x1000000 ![0, 1] bcast_S1000000x1_S1000000x1000000_0_1
          (broadcastInDim S1000000x1 ![0] bcast_S1000000_S1000000x1_0 u) (ix2 q j) = u (ix1 q) := bcRows (n := 1000000) (m := 1000000) _ _ u q j
      rw [← h1, ← h2]
      exact Iff.rfl
  have hle : Nat.count (fun j => Below (c (sumIx j)) (u (ix1 q))) 1000000 ≤ 1000000 := Nat.count_le _
  refine (congrArg (fun n => IntOp.minsi (BitVec.ofNat 32 999999) (IntOp.maxsi (BitVec.ofNat 32 0) n)) hc).trans ?_
  rw [clip_word (by omega) (by omega) (by omega), Nat.max_eq_left (Nat.zero_le _)]

/-- Where a vector of words is not below another, choosing by "below" keeps the vector. -/
theorem select_not_less {s : Shape} (t z a : IVec s 32) (i : s.Idx) (h : (t i).slt (z i) = false) : select (cmpi .slt t z) a t i = t i := by
  show (if BitVec.ofBool ((t i).slt (z i)) = 1 then a i else t i) = t i
  rw [h, if_neg (by decide)]

/-- The row it takes for a query. -/
theorem taking_read (c u : Vec F S1000000 .f32) (x : Vec F S1000000x16 .f32) (q : Fin 1000000) (y : Fin 16) :
    taking c u x (ix2 q y) = x (rowIx (min (Nat.count (fun j => Below (c (sumIx j)) (u (ix1 q))) 1000000) 999999) y) := by
  refine Idealize.ShloMosaic.Routing.gather_row (nb := 1000000) (B := 16) (n := 1000000) _ rfl rfl rfl rfl rfl x _ q y _ ?_ (by norm_num)
  refine (bcCol (n := 1000000) _ _ q).trans ?_
  refine (select_not_less _ _ _ _ ?_).trans ?_
  · have hz : broadcastInDim S1000000 ![] bcast_S_S1000000 (constantI S_ 32 0#32) (ix1 q) = BitVec.ofNat 32 0 := bc0 _ _ _
    rw [hz, tally_read, slt_ofNat32 (by omega) (by omega)]
    simp
  rw [tally_read]
  exact congrArg (BitVec.ofNat 32) (by show _ = min _ 999999; omega)

/-- Over extended reals the rows it takes are the rows the kernel draws. -/
theorem taking_eq_picks (w u : Vec Ideal S1000000 .f32) (hw : ∀ i, (0 : EReal) ≤ w i) (x : Vec Ideal S1000000x16 .f32) :
    taking (cdfOf w) u x = picks (coarseOf (cdfOf w)) (fineOf (cdfOf w)) u x := by
  funext i
  have hi : ix2 (i 0) (i 1) = i := funext fun a => by
    match a with
    | ⟨0, _⟩ => rfl
    | ⟨1, _⟩ => rfl
  rw [← hi]
  refine (taking_read _ _ _ _ _).trans ?_
  exact congrArg (fun n => x (rowIx n (i 1))) (pos_sums w hw (u (ix1 (i 0)))).symm

end Cert.Proof.Run

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.Drawn
public import Idealize.ShloMosaic.Adequacy
public import Idealize.ShloMosaic.Init

@[expose] public section

noncomputable section

namespace Cert.Proof

open Idealize.ShloMosaic Idealize.SL.Sem Cert.Kernel

/-- The kernel, over the machine's float words: it ends, its arguments unchanged and every semaphore at zero. -/
theorem frame_kernel : Cert.quiescent_Kernel := fun m ρ _ =>
  (θ_run Cert.KernelIdeal.defs _ _).mono (fun _ h => ⟨fun c => (h.1 c).2, h.2⟩) (Run.run_main (F := Bits) m ρ)

/-- The same over extended reals. -/
theorem frame_kernelIdeal : Cert.quiescent_KernelIdeal := fun m ρ _ =>
  (θ_run Cert.KernelIdeal.defs _ _).mono (fun _ h => ⟨fun c => (h.1 c).2, h.2⟩) (Run.run_main (F := Ideal) m ρ)

/-- The reference: it ends, its arguments unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From arguments that agree, the kernel and the reference leave the same rows of the data over extended reals. -/
theorem algebraic : Cert.algebraic_KernelIdeal_ReferenceIdeal := fun m g m' g' _ hagree =>
  ⟨fun c => Run.picks (Run.coarseOf (Run.cdf m c)) (Run.fineOf (Run.cdf m c))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg0)),
    (θ_run Cert.KernelIdeal.defs _ _).mono (fun _ h c => h.1 c) (Run.run_main (F := Ideal) m g),
    (θ_run Cert.ReferenceIdeal.defs _ _).mono (fun r h c => ⟨(h c).1.trans (by
        obtain ⟨h0, h1, h2, h3, h4, h5⟩ := hagree c
        rw [Run.result_eq, h0, h1, h2, h3, h4, h5]
        exact Run.taking_eq_picks _ _ (Run.weights_nonneg _ _ _ _ _) _), (h c).2⟩)
      (Cert.ReferenceIdeal.Value.run (F := Ideal) m' g')⟩

/-- Everything claimed. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
